-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S1024x1024 : Shape := ⟨2, ![1024, 1024]⟩
abbrev S1024 : Shape := ⟨1, ![1024]⟩
abbrev S2048 : Shape := ⟨1, ![2048]⟩
abbrev S_ : Shape := ⟨0, ![]⟩
abbrev S1024x1 : Shape := ⟨2, ![1024, 1]⟩
abbrev S1x2048 : Shape := ⟨2, ![1, 2048]⟩
abbrev S1024x2048 : Shape := ⟨2, ![1024, 2048]⟩
abbrev S1 : Shape := ⟨1, ![1]⟩
abbrev S2048x2048 : Shape := ⟨2, ![2048, 2048]⟩
abbrev S2048x1 : Shape := ⟨2, ![2048, 1]⟩
abbrev S1x1024 : Shape := ⟨2, ![1, 1024]⟩
abbrev S2048x1024 : Shape := ⟨2, ![2048, 1024]⟩
abbrev S8192x1024 : Shape := ⟨2, ![8192, 1024]⟩
abbrev S512x1024 : Shape := ⟨2, ![512, 1024]⟩
abbrev S512x2048 : Shape := ⟨2, ![512, 2048]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩
abbrev S1x1024x512 : Shape := ⟨3, ![1, 1024, 512]⟩
abbrev S1024x512 : Shape := ⟨2, ![1024, 512]⟩
abbrev S4x8x1024 : Shape := ⟨3, ![4, 8, 1024]⟩
abbrev S1x8x512 : Shape := ⟨3, ![1, 8, 512]⟩
abbrev S512 : Shape := ⟨1, ![512]⟩
abbrev S1x512 : Shape := ⟨2, ![1, 512]⟩
abbrev S8x512 : Shape := ⟨2, ![8, 512]⟩
abbrev S4x1x1024 : Shape := ⟨3, ![4, 1, 1024]⟩
abbrev S4x1024 : Shape := ⟨2, ![4, 1024]⟩
abbrev S4x16x64x1 : Shape := ⟨4, ![4, 16, 64, 1]⟩
abbrev S4x16x64x128 : Shape := ⟨4, ![4, 16, 64, 128]⟩
abbrev S4x16x64x2047 : Shape := ⟨4, ![4, 16, 64, 2047]⟩
abbrev S1x16x64x128 : Shape := ⟨4, ![1, 16, 64, 128]⟩
abbrev S16x64x128 : Shape := ⟨3, ![16, 64, 128]⟩
abbrev S4x16x64x7 : Shape := ⟨4, ![4, 16, 64, 7]⟩
abbrev S4x7x16x64 : Shape := ⟨4, ![4, 7, 16, 64]⟩
abbrev S4x7x16 : Shape := ⟨3, ![4, 7, 16]⟩
abbrev S4x7x16x1 : Shape := ⟨4, ![4, 7, 16, 1]⟩
abbrev S4x1x16x64 : Shape := ⟨4, ![4, 1, 16, 64]⟩
abbrev S4x16x64 : Shape := ⟨3, ![4, 16, 64]⟩
abbrev S1x1x1024 : Shape := ⟨3, ![1, 1, 1024]⟩
abbrev S1x512x1024 : Shape := ⟨3, ![1, 512, 1024]⟩
abbrev S511x1024 : Shape := ⟨2, ![511, 1024]⟩

abbrev nBuf : Space → Nat
  | .hbm => 210
  | .vmem => 54
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S2048, .i32⟩
  | 12 => ⟨S1024, .i32⟩
  | 13 => ⟨S_, .f32⟩
  | 14 => ⟨S_, .f32⟩
  | 15 => ⟨S_, .f32⟩
  | 16 => ⟨S_, .f32⟩
  | 17 => ⟨S1024x1, .i32⟩
  | 18 => ⟨S1x2048, .i32⟩
  | 19 => ⟨S1024x2048, .i32⟩
  | 20 => ⟨S1024x2048, .i32⟩
  | 21 => ⟨S1024x2048, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S1024x2048, .i32⟩
  | 29 => ⟨S1024x2048, .i32⟩
  | 30 => ⟨S_, .i32⟩
  | 31 => ⟨S1024x2048, .i32⟩
  | 32 => ⟨S1024x2048, .i1⟩
  | 33 => ⟨S_, .i32⟩
  | 34 => ⟨S1024x2048, .i32⟩
  | 35 => ⟨S1024x2048, .i1⟩
  | 36 => ⟨S_, .i32⟩
  | 37 => ⟨S_, .i1⟩
  | 38 => ⟨S1024x2048, .i1⟩
  | 39 => ⟨S1024x2048, .i1⟩
  | 40 => ⟨S1024x2048, .i1⟩
  | 41 => ⟨S1024x2048, .i32⟩
  | 42 => ⟨S1024x2048, .i32⟩
  | 43 => ⟨S1024x2048, .i32⟩
  | 44 => ⟨S1024x2048, .f32⟩
  | 45 => ⟨S1024x2048, .f32⟩
  | 46 => ⟨S1024x2048, .f32⟩
  | 47 => ⟨S1024x2048, .f32⟩
  | 48 => ⟨S1024x2048, .f32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S2048, .i32⟩
  | 56 => ⟨S2048, .i32⟩
  | 57 => ⟨S_, .i32⟩
  | 58 => ⟨S2048, .i32⟩
  | 59 => ⟨S2048, .i1⟩
  | 60 => ⟨S_, .i32⟩
  | 61 => ⟨S2048, .i32⟩
  | 62 => ⟨S2048, .i1⟩
  | 63 => ⟨S_, .i32⟩
  | 64 => ⟨S_, .i1⟩
  | 65 => ⟨S2048, .i1⟩
  | 66 => ⟨S2048, .i1⟩
  | 67 => ⟨S2048, .i1⟩
  | 68 => ⟨S2048, .i32⟩
  | 69 => ⟨S2048, .i32⟩
  | 70 => ⟨S2048, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i32⟩
  | 77 => ⟨S2048, .f32⟩
  | 78 => ⟨S_, .i32⟩
  | 79 => ⟨S1, .i32⟩
  | 80 => ⟨S1024x2048, .f32⟩
  | 81 => ⟨S2048x2048, .f32⟩
  | 82 => ⟨S2048, .i32⟩
  | 83 => ⟨S2048x1, .i32⟩
  | 84 => ⟨S1x1024, .i32⟩
  | 85 => ⟨S2048x1024, .i32⟩
  | 86 => ⟨S2048x1024, .i32⟩
  | 87 => ⟨S2048x1024, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S2048x1024, .i32⟩
  | 95 => ⟨S2048x1024, .i32⟩
  | 96 => ⟨S_, .i32⟩
  | 97 => ⟨S2048x1024, .i32⟩
  | 98 => ⟨S2048x1024, .i1⟩
  | 99 => ⟨S_, .i32⟩
  | 100 => ⟨S2048x1024, .i32⟩
  | 101 => ⟨S2048x1024, .i1⟩
  | 102 => ⟨S_, .i32⟩
  | 103 => ⟨S_, .i1⟩
  | 104 => ⟨S2048x1024, .i1⟩
  | 105 => ⟨S2048x1024, .i1⟩
  | 106 => ⟨S2048x1024, .i1⟩
  | 107 => ⟨S2048x1024, .i32⟩
  | 108 => ⟨S2048x1024, .i32⟩
  | 109 => ⟨S2048x1024, .i32⟩
  | 110 => ⟨S2048x1024, .f32⟩
  | 111 => ⟨S2048x1024, .f32⟩
  | 112 => ⟨S2048x1024, .f32⟩
  | 113 => ⟨S2048x1024, .f32⟩
  | 114 => ⟨S_, .f32⟩
  | 115 => ⟨S2048x1024, .f32⟩
  | 116 => ⟨S2048x1024, .f32⟩
  | 117 => ⟨S_, .i32⟩
  | 118 => ⟨S1, .i32⟩
  | 119 => ⟨S_, .f32⟩
  | 120 => ⟨S2048, .f32⟩
  | 121 => ⟨S2048x1024, .f32⟩
  | 122 => ⟨S2048x1024, .f32⟩
  | 123 => ⟨S_, .f32⟩
  | 124 => ⟨S2048x1024, .f32⟩
  | 125 => ⟨S2048x1024, .f32⟩
  | 126 => ⟨S_, .i32⟩
  | 127 => ⟨S_, .i32⟩
  | _ => ⟨S4x2048x1024, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i1⟩
  | 9 => ⟨S_, .i32⟩
  | 10 => ⟨S2048, .i32⟩
  | 11 => ⟨S2048, .i1⟩
  | 12 => ⟨S_, .i32⟩
  | 13 => ⟨S_, .i1⟩
  | 14 => ⟨S2048, .i1⟩
  | 15 => ⟨S2048, .i1⟩
  | 16 => ⟨S2048, .i1⟩
  | 17 => ⟨S2048, .i32⟩
  | 18 => ⟨S2048, .i32⟩
  | 19 => ⟨S2048, .i32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S_, .f32⟩
  | 28 => ⟨S2048, .f32⟩
  | 29 => ⟨S2048, .f32⟩
  | 30 => ⟨S_, .i32⟩
  | 31 => ⟨S1, .i32⟩
  | 32 => ⟨S2048x1024, .f32⟩
  | 33 => ⟨S2048x2048, .f32⟩
  | 34 => ⟨S8192x1024, .f32⟩
  | 35 => ⟨S8192x1024, .f32⟩
  | 36 => ⟨S8192x1024, .f32⟩
  | 37 => ⟨S1024x1024, .f32⟩
  | 38 => ⟨S1024x1024, .f32⟩
  | 39 => ⟨S1024x1024, .f32⟩
  | 40 => ⟨S1x1024, .f32⟩
  | 41 => ⟨S1x1024, .f32⟩
  | 42 => ⟨S1x1024, .f32⟩
  | 43 => ⟨S8192x1024, .f32⟩
  | 44 => ⟨S8192x1024, .f32⟩
  | 45 => ⟨S8192x1024, .f32⟩
  | 46 => ⟨S4x2048x1024, .f32⟩
  | 47 => ⟨S4x2048x1024, .f32⟩
  | 48 => ⟨S4x2048x1024, .f32⟩
  | 49 => ⟨S4x2048x1024, .f32⟩
  | 50 => ⟨S4x2048x1024, .f32⟩
  | 51 => ⟨S4x2048x1024, .f32⟩
  | 52 => ⟨S4x8x1024, .f32⟩
  | 53 => ⟨S4x1x1024, .f32⟩
  | 54 => ⟨S4x1024, .f32⟩
  | 55 => ⟨S4x16x64x1, .f32⟩
  | 56 => ⟨S4x16x64x128, .f32⟩
  | 57 => ⟨S4x16x64x2047, .f32⟩
  | 58 => ⟨S4x16x64x7, .f32⟩
  | 59 => ⟨S4x7x16x64, .f32⟩
  | 60 => ⟨S_, .f32⟩
  | 61 => ⟨S4x7x16, .f32⟩
  | 62 => ⟨S_, .f32⟩
  | 63 => ⟨S4x7x16, .f32⟩
  | 64 => ⟨S4x7x16, .f32⟩
  | 65 => ⟨S4x7x16x1, .f32⟩
  | 66 => ⟨S4x7x16x64, .f32⟩
  | 67 => ⟨S4x7x16x64, .f32⟩
  | 68 => ⟨S4x7x16x64, .f32⟩
  | 69 => ⟨S_, .f32⟩
  | 70 => ⟨S4x7x16, .f32⟩
  | 71 => ⟨S4x7x16x1, .f32⟩
  | 72 => ⟨S4x7x16x64, .f32⟩
  | 73 => ⟨S4x7x16x64, .f32⟩
  | 74 => ⟨S4x1x16x64, .f32⟩
  | 75 => ⟨S4x16x64, .f32⟩
  | 76 => ⟨S4x16x64, .i32⟩
  | 77 => ⟨S4x16x64, .f32⟩
  | 78 => ⟨S4x1x1024, .f32⟩
  | 79 => ⟨S1024x1024, .f32⟩
  | 80 => ⟨S1x1024, .f32⟩
  | 81 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x2048, .f32⟩
  | .local _ .vmem, ⟨19, _⟩ => ⟨S512x2048, .f32⟩
  | .local _ .vmem, ⟨20, _⟩ => ⟨S1x2048x512, .f32⟩
  | .local _ .vmem, ⟨21, _⟩ => ⟨S1x2048x512, .f32⟩
  | .local _ .vmem, ⟨22, _⟩ => ⟨S1x2048x512, .f32⟩
  | .local _ .vmem, ⟨23, _⟩ => ⟨S1x2048x512, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x2048x512, .f32⟩
  | .local _ .vmem, ⟨29, _⟩ => ⟨S1x2048x512, .f32⟩
  | .local _ .vmem, ⟨30, _⟩ => ⟨S1x2048x512, .f32⟩
  | .local _ .vmem, ⟨31, _⟩ => ⟨S1x2048x512, .f32⟩
  | .local _ .vmem, ⟨32, _⟩ => ⟨S1x2048x512, .f32⟩
  | .local _ .vmem, ⟨33, _⟩ => ⟨S1x2048x512, .f32⟩
  | .local _ .vmem, ⟨34, _⟩ => ⟨S512x2048, .f32⟩
  | .local _ .vmem, ⟨35, _⟩ => ⟨S512x2048, .f32⟩
  | .local _ .vmem, ⟨36, _⟩ => ⟨S1x2048x512, .f32⟩
  | .local _ .vmem, ⟨37, _⟩ => ⟨S1x2048x512, .f32⟩
  | .local _ .vmem, ⟨38, _⟩ => ⟨S1x8x512, .f32⟩
  | .local _ .vmem, ⟨39, _⟩ => ⟨S1x8x512, .f32⟩
  | .local _ .vmem, ⟨40, _⟩ => ⟨S1x16x64x128, .f32⟩
  | .local _ .vmem, ⟨41, _⟩ => ⟨S1x16x64x128, .f32⟩
  | .local _ .vmem, ⟨42, _⟩ => ⟨S1x16x64x128, .f32⟩
  | .local _ .vmem, ⟨43, _⟩ => ⟨S1x16x64x128, .f32⟩
  | .local _ .vmem, ⟨44, _⟩ => ⟨S1x1x1024, .f32⟩
  | .local _ .vmem, ⟨45, _⟩ => ⟨S1x1x1024, .f32⟩
  | .local _ .vmem, ⟨46, _⟩ => ⟨S1x512x1024, .f32⟩
  | .local _ .vmem, ⟨47, _⟩ => ⟨S1x512x1024, .f32⟩
  | .local _ .vmem, ⟨48, _⟩ => ⟨S1x512x1024, .f32⟩
  | .local _ .vmem, ⟨49, _⟩ => ⟨S1x512x1024, .f32⟩
  | .local _ .vmem, ⟨50, _⟩ => ⟨S1024x1024, .f32⟩
  | .local _ .vmem, ⟨51, _⟩ => ⟨S1x1024, .f32⟩
  | .local _ .vmem, ⟨52, _⟩ => ⟨S1x512x1024, .f32⟩
  | .local _ .vmem, ⟨53, _⟩ => ⟨S1x512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_1 : Ref sig .tc := ⟨.hbm, 30, rfl⟩
abbrev main_call0_v5 : Ref sig .tc := ⟨.hbm, 31, rfl⟩
abbrev main_call0_v6 : Ref sig .tc := ⟨.hbm, 32, rfl⟩
abbrev main_call0_c_2 : Ref sig .tc := ⟨.hbm, 33, rfl⟩
abbrev main_call0_v7 : Ref sig .tc := ⟨.hbm, 34, rfl⟩
abbrev main_call0_v8 : Ref sig .tc := ⟨.hbm, 35, rfl⟩
abbrev main_call0_c_3 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_c_1 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v15 : Ref sig .tc := ⟨.hbm, 70, rfl⟩
abbrev main_c_2 : Ref sig .tc := ⟨.hbm, 71, rfl⟩
abbrev main_v16 : Ref sig .tc := ⟨.hbm, 72, rfl⟩
abbrev main_v17 : Ref sig .tc := ⟨.hbm, 73, rfl⟩
abbrev main_c_3 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c_4 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_c_5 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_1 : Ref sig .tc := ⟨.hbm, 96, rfl⟩
abbrev main_call2_v5 : Ref sig .tc := ⟨.hbm, 97, rfl⟩
abbrev main_call2_v6 : Ref sig .tc := ⟨.hbm, 98, rfl⟩
abbrev main_call2_c_2 : Ref sig .tc := ⟨.hbm, 99, rfl⟩
abbrev main_call2_v7 : Ref sig .tc := ⟨.hbm, 100, rfl⟩
abbrev main_call2_v8 : Ref sig .tc := ⟨.hbm, 101, rfl⟩
abbrev main_call2_c_3 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_v30 : Ref sig .tc := ⟨.hbm, 109, rfl⟩
abbrev main_v31 : Ref sig .tc := ⟨.hbm, 110, rfl⟩
abbrev main_v32 : Ref sig .tc := ⟨.hbm, 111, rfl⟩
abbrev main_v33 : Ref sig .tc := ⟨.hbm, 112, rfl⟩
abbrev main_v34 : Ref sig .tc := ⟨.hbm, 113, rfl⟩
abbrev main_cst_6 : Ref sig .tc := ⟨.hbm, 114, rfl⟩
abbrev main_v35 : Ref sig .tc := ⟨.hbm, 115, rfl⟩
abbrev main_v36 : Ref sig .tc := ⟨.hbm, 116, rfl⟩
abbrev main_c_7 : Ref sig .tc := ⟨.hbm, 117, rfl⟩
abbrev main_v37 : Ref sig .tc := ⟨.hbm, 118, rfl⟩
abbrev main_cst_8 : Ref sig .tc := ⟨.hbm, 119, rfl⟩
abbrev main_v38 : Ref sig .tc := ⟨.hbm, 120, rfl⟩
abbrev main_v39 : Ref sig .tc := ⟨.hbm, 121, rfl⟩
abbrev main_v40 : Ref sig .tc := ⟨.hbm, 122, rfl⟩
abbrev main_cst_9 : Ref sig .tc := ⟨.hbm, 123, rfl⟩
abbrev main_v41 : Ref sig .tc := ⟨.hbm, 124, rfl⟩
abbrev main_v42 : Ref sig .tc := ⟨.hbm, 125, rfl⟩
abbrev main_c_10 : Ref sig .tc := ⟨.hbm, 126, rfl⟩
abbrev main_call3_v0 : Ref sig .tc := ⟨.hbm, 127, rfl⟩
abbrev main_call3_c : Ref sig .tc := ⟨.hbm, 128, rfl⟩
abbrev main_call3_v1 : Ref sig .tc := ⟨.hbm, 129, rfl⟩
abbrev main_call3_c_0 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_c_1 : Ref sig .tc := ⟨.hbm, 134, rfl⟩
abbrev main_call3_v5 : Ref sig .tc := ⟨.hbm, 135, rfl⟩
abbrev main_call3_v6 : Ref sig .tc := ⟨.hbm, 136, rfl⟩
abbrev main_call3_c_2 : Ref sig .tc := ⟨.hbm, 137, rfl⟩
abbrev main_call3_v7 : Ref sig .tc := ⟨.hbm, 138, rfl⟩
abbrev main_call3_v8 : Ref sig .tc := ⟨.hbm, 139, rfl⟩
abbrev main_call3_c_3 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_v13 : Ref sig .tc := ⟨.hbm, 145, rfl⟩
abbrev main_call3_v14 : Ref sig .tc := ⟨.hbm, 146, rfl⟩
abbrev main_v43 : Ref sig .tc := ⟨.hbm, 147, rfl⟩
abbrev main_c_11 : Ref sig .tc := ⟨.hbm, 148, rfl⟩
abbrev main_v44 : Ref sig .tc := ⟨.hbm, 149, rfl⟩
abbrev main_v45 : Ref sig .tc := ⟨.hbm, 150, rfl⟩
abbrev main_c_12 : Ref sig .tc := ⟨.hbm, 151, rfl⟩
abbrev main_v46 : Ref sig .tc := ⟨.hbm, 152, rfl⟩
abbrev main_v47 : Ref sig .tc := ⟨.hbm, 153, rfl⟩
abbrev main_v48 : Ref sig .tc := ⟨.hbm, 154, rfl⟩
abbrev main_cst_13 : Ref sig .tc := ⟨.hbm, 155, rfl⟩
abbrev main_v49 : Ref sig .tc := ⟨.hbm, 156, rfl⟩
abbrev main_v50 : Ref sig .tc := ⟨.hbm, 157, rfl⟩
abbrev main_c_14 : Ref sig .tc := ⟨.hbm, 158, rfl⟩
abbrev main_v51 : Ref sig .tc := ⟨.hbm, 159, rfl⟩
abbrev main_v52 : Ref sig .tc := ⟨.hbm, 160, rfl⟩
abbrev main_v53 : Ref sig .tc := ⟨.hbm, 161, rfl⟩
abbrev main_v54 : Ref sig .tc := ⟨.hbm, 162, rfl⟩
abbrev main_v55 : Ref sig .tc := ⟨.hbm, 163, rfl⟩
abbrev main_v56 : Ref sig .tc := ⟨.hbm, 164, rfl⟩
abbrev main_v57 : Ref sig .tc := ⟨.hbm, 165, rfl⟩
abbrev main_v58 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_v62 : Ref sig .tc := ⟨.hbm, 170, rfl⟩
abbrev main_v63_0 : Ref sig .tc := ⟨.hbm, 171, rfl⟩
abbrev main_v63_1 : Ref sig .tc := ⟨.hbm, 172, rfl⟩
abbrev main_v63_2 : Ref sig .tc := ⟨.hbm, 173, rfl⟩
abbrev main_v64 : Ref sig .tc := ⟨.hbm, 174, rfl⟩
abbrev main_v65 : Ref sig .tc := ⟨.hbm, 175, rfl⟩
abbrev main_v66 : Ref sig .tc := ⟨.hbm, 176, rfl⟩
abbrev main_v67_0 : Ref sig .tc := ⟨.hbm, 177, rfl⟩
abbrev main_v67_1 : Ref sig .tc := ⟨.hbm, 178, rfl⟩
abbrev main_v68 : Ref sig .tc := ⟨.hbm, 179, rfl⟩
abbrev main_v69 : Ref sig .tc := ⟨.hbm, 180, rfl⟩
abbrev main_v70 : Ref sig .tc := ⟨.hbm, 181, rfl⟩
abbrev main_v71 : Ref sig .tc := ⟨.hbm, 182, rfl⟩
abbrev main_v72 : Ref sig .tc := ⟨.hbm, 183, rfl⟩
abbrev main_v73 : Ref sig .tc := ⟨.hbm, 184, rfl⟩
abbrev main_v74 : Ref sig .tc := ⟨.hbm, 185, rfl⟩
abbrev main_v75 : Ref sig .tc := ⟨.hbm, 186, rfl⟩
abbrev main_v76 : Ref sig .tc := ⟨.hbm, 187, rfl⟩
abbrev main_cst_15 : Ref sig .tc := ⟨.hbm, 188, rfl⟩
abbrev main_v77 : Ref sig .tc := ⟨.hbm, 189, rfl⟩
abbrev main_cst_16 : Ref sig .tc := ⟨.hbm, 190, rfl⟩
abbrev main_v78 : Ref sig .tc := ⟨.hbm, 191, rfl⟩
abbrev main_v79 : Ref sig .tc := ⟨.hbm, 192, rfl⟩
abbrev main_v80 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_cst_17 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![4, 4, 2], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, false]

abbrev stage1_1 : Fin 2 → Memref sig .tc .vmem S1x2048x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨3, ![4, 2, 4], ![false, false, false]⟩

def k3_cond1 (i : grid3.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k3_cond2 (i : grid3.Coords) : BitVec 1 :=
  let arg2 : BitVec 32 := BitVec.ofNat 32 (i 2).val
  let c0_i32_5 : BitVec 32 := 0#32
  let v8 : BitVec 1 := Scalar.cmpi .ne arg2 c0_i32_5
  let v9 : BitVec 32 := Scalar.extui v8
  let c0_i32_6 : BitVec 32 := 0#32
  let v10 : BitVec 1 := Scalar.cmpi .ne v9 c0_i32_6
  v10

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage3_0 : Fin 2 → Memref sig .tc .vmem S512x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, false, true]

abbrev stage3_1 : Fin 2 → Memref sig .tc .vmem S1x2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, false]

abbrev stage3_2 : Fin 2 → Memref sig .tc .vmem S1x8x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![4], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x16x64x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x16x64x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev grid5 : Pipeline.Grid := ⟨2, ![4, 4], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c4_i32 : BitVec 32 := 4#32
  let c0_i32 : BitVec 32 := 0#32
  let v1 : BitVec 1 := Scalar.cmpi .eq c4_i32 c0_i32
  let c1_i32_0 : BitVec 32 := 1#32
  let v2 : BitVec 32 := Scalar.select v1 c1_i32_0 c4_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![arg0.toNat, v10.toNat, c0_i32_4.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x1x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1x512x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x512x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S1024x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1x512x1024 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, true]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S1025 : Shape := ⟨1, ![1025]⟩
abbrev S2048 : Shape := ⟨1, ![2048]⟩
abbrev S1025x1 : Shape := ⟨2, ![1025, 1]⟩
abbrev S1x2048 : Shape := ⟨2, ![1, 2048]⟩
abbrev S1025x2048 : Shape := ⟨2, ![1025, 2048]⟩
abbrev S_ : Shape := ⟨0, ![]⟩
abbrev S4x1024x1025 : Shape := ⟨3, ![4, 1024, 1025]⟩
abbrev S4x1025x1024 : Shape := ⟨3, ![4, 1025, 1024]⟩
abbrev S2048x1 : Shape := ⟨2, ![2048, 1]⟩
abbrev S1x1025 : Shape := ⟨2, ![1, 1025]⟩
abbrev S2048x1025 : Shape := ⟨2, ![2048, 1025]⟩
abbrev S4x1024x2048 : Shape := ⟨3, ![4, 1024, 2048]⟩
abbrev S4x2047x16x64 : Shape := ⟨4, ![4, 2047, 16, 64]⟩
abbrev S4x16x64x2047 : Shape := ⟨4, ![4, 16, 64, 2047]⟩
abbrev S4x16x64x7 : Shape := ⟨4, ![4, 16, 64, 7]⟩
abbrev S4x7x16x64 : Shape := ⟨4, ![4, 7, 16, 64]⟩
abbrev S4x7x16 : Shape := ⟨3, ![4, 7, 16]⟩
abbrev S4x7x16x1 : Shape := ⟨4, ![4, 7, 16, 1]⟩
abbrev S4x1x16x64 : Shape := ⟨4, ![4, 1, 16, 64]⟩
abbrev S4x16x64 : Shape := ⟨3, ![4, 16, 64]⟩
abbrev S1x2048x1x1 : Shape := ⟨4, ![1, 2048, 1, 1]⟩
abbrev S4x2048x16x64x1 : Shape := ⟨5, ![4, 2048, 16, 64, 1]⟩
abbrev S1 : Shape := ⟨1, ![1]⟩
abbrev S1x1x1x1x1 : Shape := ⟨5, ![1, 1, 1, 1, 1]⟩

abbrev nBuf : Space → Nat
  | .hbm => 195
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S1024x1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S4x2048x1024, .f32⟩
  | 13 => ⟨S1x1x1024, .f32⟩
  | 14 => ⟨S4x2048x1024, .f32⟩
  | 15 => ⟨S4x2048x1024, .f32⟩
  | 16 => ⟨S1024x1024, .f32⟩
  | 17 => ⟨S4x2048x1024, .f32⟩
  | 18 => ⟨S1x1x1024, .f32⟩
  | 19 => ⟨S4x2048x1024, .f32⟩
  | 20 => ⟨S4x2048x1024, .f32⟩
  | 21 => ⟨S1024x1024, .f32⟩
  | 22 => ⟨S4x2048x1024, .f32⟩
  | 23 => ⟨S1x1x1024, .f32⟩
  | 24 => ⟨S4x2048x1024, .f32⟩
  | 25 => ⟨S4x2048x1024, .f32⟩
  | 26 => ⟨S4x2048x16x64, .f32⟩
  | 27 => ⟨S1025, .i32⟩
  | 28 => ⟨S2048, .i32⟩
  | 29 => ⟨S1025x1, .i32⟩
  | 30 => ⟨S1x2048, .i32⟩
  | 31 => ⟨S1025x2048, .i32⟩
  | 32 => ⟨S1025x2048, .i32⟩
  | 33 => ⟨S1025x2048, .i32⟩
  | 34 => ⟨S1025x2048, .f32⟩
  | 35 => ⟨S_, .f32⟩
  | 36 => ⟨S_, .f32⟩
  | 37 => ⟨S_, .f32⟩
  | 38 => ⟨S_, .f32⟩
  | 39 => ⟨S1025x2048, .f32⟩
  | 40 => ⟨S1025x2048, .f32⟩
  | 41 => ⟨S1025x2048, .f32⟩
  | 42 => ⟨S4x1024x1025, .f32⟩
  | 43 => ⟨S4x1025x1024, .f32⟩
  | 44 => ⟨S1025x2048, .f32⟩
  | 45 => ⟨S4x1024x1025, .f32⟩
  | 46 => ⟨S4x1025x1024, .f32⟩
  | 47 => ⟨S4x1025x1024, .f32⟩
  | 48 => ⟨S1025, .i32⟩
  | 49 => ⟨S2048, .i32⟩
  | 50 => ⟨S1025x1, .i32⟩
  | 51 => ⟨S1x2048, .i32⟩
  | 52 => ⟨S1025x2048, .i32⟩
  | 53 => ⟨S1025x2048, .i32⟩
  | 54 => ⟨S1025x2048, .i32⟩
  | 55 => ⟨S1025x2048, .f32⟩
  | 56 => ⟨S_, .f32⟩
  | 57 => ⟨S_, .f32⟩
  | 58 => ⟨S_, .f32⟩
  | 59 => ⟨S_, .f32⟩
  | 60 => ⟨S1025x2048, .f32⟩
  | 61 => ⟨S1025x2048, .f32⟩
  | 62 => ⟨S1025x2048, .f32⟩
  | 63 => ⟨S4x1024x1025, .f32⟩
  | 64 => ⟨S4x1025x1024, .f32⟩
  | 65 => ⟨S1025x2048, .f32⟩
  | 66 => ⟨S4x1024x1025, .f32⟩
  | 67 => ⟨S4x1025x1024, .f32⟩
  | 68 => ⟨S4x1025x1024, .f32⟩
  | 69 => ⟨S4x1025x1024, .f32⟩
  | 70 => ⟨S4x1025x1024, .f32⟩
  | 71 => ⟨S4x1025x1024, .f32⟩
  | 72 => ⟨S4x1025x1024, .f32⟩
  | 73 => ⟨S4x1025x1024, .f32⟩
  | 74 => ⟨S4x1025x1024, .f32⟩
  | 75 => ⟨S1025, .i32⟩
  | 76 => ⟨S2048, .i32⟩
  | 77 => ⟨S2048x1, .i32⟩
  | 78 => ⟨S1x1025, .i32⟩
  | 79 => ⟨S2048x1025, .i32⟩
  | 80 => ⟨S2048x1025, .i32⟩
  | 81 => ⟨S2048x1025, .i32⟩
  | 82 => ⟨S2048x1025, .f32⟩
  | 83 => ⟨S_, .f32⟩
  | 84 => ⟨S_, .f32⟩
  | 85 => ⟨S_, .f32⟩
  | 86 => ⟨S_, .f32⟩
  | 87 => ⟨S2048x1025, .f32⟩
  | 88 => ⟨S2048x1025, .f32⟩
  | 89 => ⟨S_, .i32⟩
  | 90 => ⟨S1025, .i32⟩
  | 91 => ⟨S1025, .i1⟩
  | 92 => ⟨S_, .i32⟩
  | 93 => ⟨S1025, .i32⟩
  | 94 => ⟨S1025, .i1⟩
  | 95 => ⟨S1025, .i1⟩
  | 96 => ⟨S_, .f32⟩
  | 97 => ⟨S_, .f32⟩
  | 98 => ⟨S1025, .f32⟩
  | 99 => ⟨S1025, .f32⟩
  | 100 => ⟨S1025, .f32⟩
  | 101 => ⟨S1x1025, .f32⟩
  | 102 => ⟨S2048x1025, .f32⟩
  | 103 => ⟨S1x1025, .f32⟩
  | 104 => ⟨S2048x1025, .f32⟩
  | 105 => ⟨S2048x1025, .f32⟩
  | 106 => ⟨S4x1024x2048, .f32⟩
  | 107 => ⟨S4x2048x1024, .f32⟩
  | 108 => ⟨S2048x1025, .f32⟩
  | 109 => ⟨S1x1025, .f32⟩
  | 110 => ⟨S2048x1025, .f32⟩
  | 111 => ⟨S2048x1025, .f32⟩
  | 112 => ⟨S2048x1025, .f32⟩
  | 113 => ⟨S4x1024x2048, .f32⟩
  | 114 => ⟨S4x2048x1024, .f32⟩
  | 115 => ⟨S4x2048x1024, .f32⟩
  | 116 => ⟨S4x2048x16x64, .f32⟩
  | 117 => ⟨S4x2047x16x64, .f32⟩
  | 118 => ⟨S4x16x64x2047, .f32⟩
  | 119 => ⟨S4x16x64x7, .f32⟩
  | 120 => ⟨S4x16x64x7, .i32⟩
  | 121 => ⟨S4x7x16x64, .f32⟩
  | 122 => ⟨S_, .f32⟩
  | 123 => ⟨S4x7x16, .f32⟩
  | 124 => ⟨S_, .f32⟩
  | 125 => ⟨S4x7x16, .f32⟩
  | 126 => ⟨S4x7x16, .f32⟩
  | 127 => ⟨S4x7x16x1, .f32⟩
  | _ => ⟨S4x2048x1024, .f32⟩

abbrev hbmTy0_1 (i : Nat) : BufTy := match i % 128 with
  | 0 => ⟨S4x7x16x64, .f32⟩
  | 1 => ⟨S4x7x16x64, .f32⟩
  | 2 => ⟨S4x7x16x64, .f32⟩
  | 3 => ⟨S_, .f32⟩
  | 4 => ⟨S4x7x16, .f32⟩
  | 5 => ⟨S4x7x16x1, .f32⟩
  | 6 => ⟨S4x7x16x64, .f32⟩
  | 7 => ⟨S4x7x16x64, .f32⟩
  | 8 => ⟨S4x1x16x64, .f32⟩
  | 9 => ⟨S4x16x64, .f32⟩
  | 10 => ⟨S4x16x64, .i32⟩
  | 11 => ⟨S2048, .i32⟩
  | 12 => ⟨S1x2048x1x1, .i32⟩
  | 13 => ⟨S4x1x16x64, .i32⟩
  | 14 => ⟨S4x2048x16x64, .i32⟩
  | 15 => ⟨S4x2048x16x64, .i32⟩
  | 16 => ⟨S4x2048x16x64, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S4x2048x16x64, .i32⟩
  | 24 => ⟨S4x2048x16x64, .i32⟩
  | 25 => ⟨S_, .i32⟩
  | 26 => ⟨S4x2048x16x64, .i32⟩
  | 27 => ⟨S4x2048x16x64, .i1⟩
  | 28 => ⟨S_, .i32⟩
  | 29 => ⟨S4x2048x16x64, .i32⟩
  | 30 => ⟨S4x2048x16x64, .i1⟩
  | 31 => ⟨S_, .i32⟩
  | 32 => ⟨S_, .i1⟩
  | 33 => ⟨S4x2048x16x64, .i1⟩
  | 34 => ⟨S4x2048x16x64, .i1⟩
  | 35 => ⟨S4x2048x16x64, .i1⟩
  | 36 => ⟨S4x2048x16x64, .i32⟩
  | 37 => ⟨S4x2048x16x64, .i32⟩
  | 38 => ⟨S4x2048x16x64, .i32⟩
  | 39 => ⟨S_, .i32⟩
  | 40 => ⟨S4x2048x16x64, .i32⟩
  | 41 => ⟨S4x2048x16x64, .i1⟩
  | 42 => ⟨S_, .i32⟩
  | 43 => ⟨S4x2048x16x64, .i32⟩
  | 44 => ⟨S4x2048x16x64, .i32⟩
  | 45 => ⟨S4x2048x16x64, .i32⟩
  | 46 => ⟨S4x2048x16x64x1, .i32⟩
  | 47 => ⟨S1, .i32⟩
  | 48 => ⟨S_, .i32⟩
  | 49 => ⟨S4x2048x16x64x1, .i32⟩
  | 50 => ⟨S4x2048x16x64x1, .i1⟩
  | 51 => ⟨S1x1x1x1x1, .i32⟩
  | 52 => ⟨S4x2048x16x64x1, .i32⟩
  | 53 => ⟨S4x2048x16x64x1, .i1⟩
  | 54 => ⟨S4x2048x16x64x1, .i1⟩
  | 55 => ⟨S_, .i1⟩
  | 56 => ⟨S4x2048x16x64, .i1⟩
  | 57 => ⟨S4x2048x16x64, .f32⟩
  | 58 => ⟨S_, .f32⟩
  | 59 => ⟨S4x2048x16x64, .f32⟩
  | 60 => ⟨S4x2048x16x64, .f32⟩
  | 61 => ⟨S4x2048x1024, .f32⟩
  | 62 => ⟨S1024x1024, .f32⟩
  | 63 => ⟨S4x2048x1024, .f32⟩
  | 64 => ⟨S1x1x1024, .f32⟩
  | 65 => ⟨S4x2048x1024, .f32⟩
  | 66 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_cst_0 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_1 : Ref sig .tc := ⟨.hbm, 56, rfl⟩
abbrev main_v43 : Ref sig .tc := ⟨.hbm, 57, rfl⟩
abbrev main_cst_2 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_3 : Ref sig .tc := ⟨.hbm, 83, rfl⟩
abbrev main_v68 : Ref sig .tc := ⟨.hbm, 84, rfl⟩
abbrev main_cst_4 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_c : Ref sig .tc := ⟨.hbm, 89, rfl⟩
abbrev main_v72 : Ref sig .tc := ⟨.hbm, 90, rfl⟩
abbrev main_v73 : Ref sig .tc := ⟨.hbm, 91, rfl⟩
abbrev main_c_5 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_6 : Ref sig .tc := ⟨.hbm, 96, rfl⟩
abbrev main_cst_7 : Ref sig .tc := ⟨.hbm, 97, rfl⟩
abbrev main_call0_v0 : Ref sig .tc := ⟨.hbm, 98, rfl⟩
abbrev main_call0_v1 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_values : Ref sig .tc := ⟨.hbm, 119, rfl⟩
abbrev main_indices : Ref sig .tc := ⟨.hbm, 120, rfl⟩
abbrev main_v96 : Ref sig .tc := ⟨.hbm, 121, rfl⟩
abbrev main_cst_8 : Ref sig .tc := ⟨.hbm, 122, rfl⟩
abbrev main_v97 : Ref sig .tc := ⟨.hbm, 123, rfl⟩
abbrev main_cst_9 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_c_11 : Ref sig .tc := ⟨.hbm, 145, rfl⟩
abbrev main_call1_v0 : Ref sig .tc := ⟨.hbm, 146, rfl⟩
abbrev main_call1_c : Ref sig .tc := ⟨.hbm, 147, rfl⟩
abbrev main_call1_v1 : Ref sig .tc := ⟨.hbm, 148, rfl⟩
abbrev main_call1_c_0 : Ref sig .tc := ⟨.hbm, 149, rfl⟩
abbrev main_call1_v2 : Ref sig .tc := ⟨.hbm, 150, rfl⟩
abbrev main_call1_v3 : Ref sig .tc := ⟨.hbm, 151, rfl⟩
abbrev main_call1_v4 : Ref sig .tc := ⟨.hbm, 152, rfl⟩
abbrev main_call1_c_1 : Ref sig .tc := ⟨.hbm, 153, rfl⟩
abbrev main_call1_v5 : Ref sig .tc := ⟨.hbm, 154, rfl⟩
abbrev main_call1_v6 : Ref sig .tc := ⟨.hbm, 155, rfl⟩
abbrev main_call1_c_2 : Ref sig .tc := ⟨.hbm, 156, rfl⟩
abbrev main_call1_v7 : Ref sig .tc := ⟨.hbm, 157, rfl⟩
abbrev main_call1_v8 : Ref sig .tc := ⟨.hbm, 158, rfl⟩
abbrev main_call1_c_3 : Ref sig .tc := ⟨.hbm, 159, rfl⟩
abbrev main_call1_v9 : Ref sig .tc := ⟨.hbm, 160, rfl⟩
abbrev main_call1_v10 : Ref sig .tc := ⟨.hbm, 161, rfl⟩
abbrev main_call1_v11 : Ref sig .tc := ⟨.hbm, 162, rfl⟩
abbrev main_call1_v12 : Ref sig .tc := ⟨.hbm, 163, rfl⟩
abbrev main_call1_v13 : Ref sig .tc := ⟨.hbm, 164, rfl⟩
abbrev main_call1_v14 : Ref sig .tc := ⟨.hbm, 165, rfl⟩
abbrev main_v117 : Ref sig .tc := ⟨.hbm, 166, rfl⟩
abbrev main_call2_c : Ref sig .tc := ⟨.hbm, 167, rfl⟩
abbrev main_call2_v0 : Ref sig .tc := ⟨.hbm, 168, rfl⟩
abbrev main_call2_v1 : Ref sig .tc := ⟨.hbm, 169, rfl⟩
abbrev main_call2_c_0 : Ref sig .tc := ⟨.hbm, 170, rfl⟩
abbrev main_call2_v2 : Ref sig .tc := ⟨.hbm, 171, rfl⟩
abbrev main_call2_v3 : Ref sig .tc := ⟨.hbm, 172, rfl⟩
abbrev main_call2_v4 : Ref sig .tc := ⟨.hbm, 173, rfl⟩
abbrev main_call2_v5 : Ref sig .tc := ⟨.hbm, 174, rfl⟩
abbrev main_call2_c_1 : Ref sig .tc := ⟨.hbm, 175, rfl⟩
abbrev main_call2_c_2 : Ref sig .tc := ⟨.hbm, 176, rfl⟩
abbrev main_call2_v6 : Ref sig .tc := ⟨.hbm, 177, rfl⟩
abbrev main_call2_v7 : Ref sig .tc := ⟨.hbm, 178, rfl⟩
abbrev main_call2_v8 : Ref sig .tc := ⟨.hbm, 179, rfl⟩
abbrev main_call2_v9 : Ref sig .tc := ⟨.hbm, 180, rfl⟩
abbrev main_call2_v10 : Ref sig .tc := ⟨.hbm, 181, rfl⟩
abbrev main_call2_v11 : Ref sig .tc := ⟨.hbm, 182, rfl⟩
abbrev main_call2_c_3 : Ref sig .tc := ⟨.hbm, 183, rfl⟩
abbrev main_call2_v12 : Ref sig .tc := ⟨.hbm, 184, rfl⟩
abbrev main_call2_v13 : Ref sig .tc := ⟨.hbm, 185, rfl⟩
abbrev main_call2_cst : Ref sig .tc := ⟨.hbm, 186, rfl⟩
abbrev main_call2_v14 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_v124 : Ref sig .tc := ⟨.hbm, 194, rfl⟩

abbrev nD : Nat := 1
abbrev τ : Topo := Topo.v7x

variable {F : FTy → Type} [FloatOps F]
-- ==== Proof.Whole.Region.lean ====
/- One kernel call of a host program as a segment of its run, for any program: the call is entered with every
   unscoped buffer at one valuation and left with every unscoped buffer at another. -/
module

public import Idealize.ShloMosaic.Lib.Pipeline.FrameBody
public import Idealize.ShloMosaic.Lib.Pipeline.Regions
public import Idealize.ShloMosaic.Lib.Pipeline.RegionArrays
public import Idealize.ShloMosaic.Lib.Pipeline.RegionsLoop
public import Idealize.ShloMosaic.Lib.Pipeline.FrameSuffix

@[expose] public section

noncomputable section

namespace Cert.Whole

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} {U : Type} [URA U]
variable {Λ₀ : Labels} {P : Type} [Fintype P]

local notation "𝕄" => MT nD τ sig Unit Val ℕ U ℕ

/-- What every thread keeps beside its buffers: the generator register at some state, and owing nothing. -/
abbrev Rest (c : Dev nD) : sProp 𝕄 :=
  iprop((∃ r, prngReg c r) ∗ ∃ W, owes (c : Thread nD τ) (0 : CellTallies nD τ sig Unit) W)

/-- Every unscoped buffer at the valuation `W c`, beside `Rest c`. -/
abbrev state (W : Dev nD → Valuation τ sig Val) (c : Dev nD) : sProp 𝕄 :=
  iprop(StableHlo.held (c : Thread nD τ) (ucRefs τ sig) (W c) ∗ Rest c)

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

/-- Call `p` as a segment from `state W` to `state W'`: the body holds at every point, the windows' arrays split out
    of the unscoped buffers at `W` (`hsplit`) and join them again at `W'` (`hjoin`); nothing is owed. -/
def region (p : P) (win : WinFacts₀ (pcs p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hK : (pcs p).pre.K = 0)
    (hbody : ∀ c, BodyObligationLoose (pdats p c) defs₀ 𝒱₀ () Set.univ)
    (howed : ∀ c t, (pdats p c).owed t = 0) (hrec : ∀ c, (pdats p c).recorded 0 = Set.univ)
    (hΦ : ∀ c t, (pdats p c).Φ t = ΦA (pin pcs a p).spec c)
    (W W' : Dev nD → Valuation τ sig Val)
    (hsplit : ∀ c : Dev nD, (unscopedBufs c (fun b => W c b) : sProp 𝕄)
      ⊢ iprop((pdats p c).arrays ((pdats p c).arrAt · 0) ∗ unscopedRest (pin pcs a p).spec c (fun b => W c b)))
    (hjoin : ∀ c : Dev nD, iprop((pdats p c).arrays ((pdats p c).arrAt · (pin pcs a p).N)
        ∗ unscopedRest (pin pcs a p).spec c (fun b => W c b))
      ⊢ (unscopedBufs c (fun b => W' c b) : sProp 𝕄)) :
    RegionSeg pcs a pdats () defs₀ 𝒱₀ L lv p where
  win := win
  block_pos := hpos
  stage_whole := hstage
  K := PEmpty
  osem k := k.elim
  ho := OwnSemFacts.none _
  hbody := hbody
  hwaits := hwaits_of_owed_zero _ _ _ _ L lv p howed
  pre := state W
  post := state W'
  X c := iprop(∃ r, prngReg c r)
  Y c := iprop(∃ r, prngReg c r)
  Z c := unscopedRest (pin pcs a p).spec c (fun b => W c b)
  hentry c := by
    have hs := hsplit c
    rw [unscopedBufs_held] at hs
    rw [ownSems0_none, prefHeld_of_none _ hK]
    iintro ⟨⟨Hub, Hp, HO⟩, -, -⟩
    ihave H := hs $$ Hub
    icases H with ⟨Ha, Hrest⟩
    imodintro
    isplitl [Ha]; · iexact Ha
    isplitr; · iempintro
    isplitl [HO]
    · unfold Dat.owesAt owesWithin Dat.bound
      rw [howed c 0, hrec c]
      icases HO with ⟨%W, HO⟩; iexists W; isplitr; · ipureintro; exact fun _ _ => Or.inl trivial
      iexact HO
    isplitl [Hp]; · iexact Hp
    iexact Hrest
  hin c := by
    rw [hΦ c 0]; unfold ΦA
    iintro ⟨Hp, -, Hr⟩
    isplitl [Hr]; · iexact Hr
    iexact Hp
  hout c := by
    rw [ownSems0_none, hΦ c (Fin.last _)]; unfold ΦA
    iintro ⟨Hr, Hp⟩
    isplitl [Hp]; · iexact Hp
    isplitr; · iempintro
    iexact Hr
  hexit c := by
    have hj := hjoin c
    rw [unscopedBufs_held] at hj
    iintro ⟨Ha, HO, HY, Hrest⟩
    imodintro
    isplitl [Ha Hrest]
    · iapply hj; isplitl [Ha] <;> iassumption
    isplitl [HY]; · iexact HY
    unfold Dat.owesAt owesWithin
    rw [howed c (Fin.last _)]
    icases HO with ⟨%W, -, HO⟩; iexists W; iexact HO

end Cert.Whole

end
-- ==== Proof.Whole.KernelIdeal.Call0.lean ====
/- Call 0 of the kernel: the three projections. What the body leaves at each grid point, its triple, and the proof data
   of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the call is entered
variable (V : (c : Dev nD) → (b : Ref sig .tc) → Buf (Elt F) ((c : Thread nD τ).loc b))

/-! ## The windows' blocks -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each output window's buffer -/

/-- Window 9 after the body, from the input blocks. -/
def out0_9 (x0 : Vec F S512x1024 .f32) (x1 : Vec F S512x1024 .f32) (x2 : Vec F S512x1024 .f32) (x3 : Vec F S1024x1024 .f32) (x4 : Vec F S1024x1024 .f32) (x5 : Vec F S1024x1024 .f32) (x6 : Vec F S1x1024 .f32) (x7 : Vec F S1x1024 .f32) (x8 : Vec F S1x1024 .f32) : Vec F S512x1024 .f32 :=
  View.canon [⟨r0_0, k0_pay2 (View.ld x0 r0_0) (View.ld x3 r0_1) (View.ld x6 r0_2)⟩]

/-- The stores cover the buffer. -/
theorem cover0_9 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 10 after the body, from the input blocks. -/
def out0_10 (x0 : Vec F S512x1024 .f32) (x1 : Vec F S512x1024 .f32) (x2 : Vec F S512x1024 .f32) (x3 : Vec F S1024x1024 .f32) (x4 : Vec F S1024x1024 .f32) (x5 : Vec F S1024x1024 .f32) (x6 : Vec F S1x1024 .f32) (x7 : Vec F S1x1024 .f32) (x8 : Vec F S1x1024 .f32) : Vec F S512x1024 .f32 :=
  View.canon [⟨r0_0, k0_pay3 (View.ld x1 r0_0) (View.ld x4 r0_1) (View.ld x7 r0_2)⟩]

/-- The stores cover the buffer. -/
theorem cover0_10 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-- Window 11 after the body, from the input blocks. -/
def out0_11 (x0 : Vec F S512x1024 .f32) (x1 : Vec F S512x1024 .f32) (x2 : Vec F S512x1024 .f32) (x3 : Vec F S1024x1024 .f32) (x4 : Vec F S1024x1024 .f32) (x5 : Vec F S1024x1024 .f32) (x6 : Vec F S1x1024 .f32) (x7 : Vec F S1x1024 .f32) (x8 : Vec F S1x1024 .f32) : Vec F S512x1024 .f32 :=
  View.canon [⟨r0_0, k0_pay1 (k0_pay4 (View.ld x2 r0_0) (View.ld x5 r0_1)) (View.ld x8 r0_2)⟩]

/-- The stores cover the buffer. -/
theorem cover0_11 (p0 : Vec F S512x1024 .f32) (y : S512x1024.Idx) :
    ∃ pc ∈ ([⟨r0_0, p0⟩] : List (View.Piece (Elt F) S512x1024 .f32)), y ∈ pc.1.set :=
  View.cover_of_tiled [⟨r0_0, p0⟩] S512x1024.size (by rfl) y

/-! ## The body's triple -/

set_option maxHeartbeats 1000000 in
/-- The body's triple: from the inputs' blocks and outputs at anything to the inputs kept and the outputs computed. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole)
    (x0 : Vec F S512x1024 .f32) (x1 : Vec F S512x1024 .f32) (x2 : Vec F S512x1024 .f32) (x3 : Vec F S1024x1024 .f32) (x4 : Vec F S1024x1024 .f32) (x5 : Vec F S1024x1024 .f32) (x6 : Vec F S1x1024 .f32) (x7 : Vec F S1x1024 .f32) (x8 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11 arg12 harg12) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  isplitl [H10]
  · iexists _; isplitr
    swap; · iexact H10
    ipureintro
    exact View.read_writes_eq_canon _ _ _ (cover0_10 _)
  iexists _; isplitr
  swap; · iexact H11
  ipureintro
  exact View.read_writes_eq_canon _ _ _ (cover0_11 _)

/-! ## The pipeline's proof data -/

/-- The proof data of this call on core `c`: the arrays as the call finds them; after the body at point `t` each input
    buffer at its block and each output buffer at what the body computes from the blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The arrays are the contents the call is entered with. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input buffer holds its block at every point, fetched there or kept. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point: the inputs hold their blocks, so the triple applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table at point `t` is the body. -/
theorem defs₀_row0 (t : Fin cfg0.N) :
    defs₀ (F := F) .tc cfg0.body (cfg0.bodyArgs t (cfg0.slots t)) = bodyAt0 t := by
  unfold defs₀; rw [Defs.onTc_tc]

/-- The body meets its obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.Whole.KernelIdeal.Call1.lean ====
/- Call 1 of the kernel: the forward transforms. What the body leaves at each grid point, its triple, and the proof data
   of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the call is entered
variable (V : (c : Dev nD) → (b : Ref sig .tc) → Buf (Elt F) ((c : Thread nD τ).loc b))

/-! ## The windows' blocks -/

/-- Window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S512x2048 := Rect.unit (s := S512x2048) ![0, 0] S512x2048.size inb_S512x2048_S512x2048_0_0
abbrev r1_1 : Rect S1x2048x512 := Rect.unit (s := S1x2048x512) ![0, 0, 0] S1x2048x512.size inb_S1x2048x512_S1x2048x512_0_0_0
abbrev r1_2 : Rect S1x512x512 := Rect.unit (s := S1x512x512) ![0, 0, 0] S1x512x512.size inb_S1x512x512_S1x512x512_0_0_0

/-! ## What the body leaves in each output window's buffer -/

/-- Window 3 after the body, from the input blocks. -/
def out1_3 (x0 : Vec F S512x2048 .f32) (x1 : Vec F S1x2048x512 .f32) (x2 : Vec F S1x2048x512 .f32) : Vec F S1x512x512 .f32 :=
  View.canon [⟨r1_2, k1_pay1 (View.ld x0 r1_0) (View.ld x1 r1_1)⟩]

/-- The stores cover the buffer. -/
theorem cover1_3 (p0 : Vec F S1x512x512 .f32) (y : S1x512x512.Idx) :
    ∃ pc ∈ ([⟨r1_2, p0⟩] : List (View.Piece (Elt F) S1x512x512 .f32)), y ∈ pc.1.set :=
  View.cover_of_tiled [⟨r1_2, p0⟩] S1x512x512.size (by rfl) y

/-- Window 4 after the body, from the input blocks. -/
def out1_4 (x0 : Vec F S512x2048 .f32) (x1 : Vec F S1x2048x512 .f32) (x2 : Vec F S1x2048x512 .f32) : Vec F S1x512x512 .f32 :=
  View.canon [⟨r1_2, k1_pay2 (View.ld x0 r1_0) (View.ld x2 r1_1)⟩]

/-- The stores cover the buffer. -/
theorem cover1_4 (p0 : Vec F S1x512x512 .f32) (y : S1x512x512.Idx) :
    ∃ pc ∈ ([⟨r1_2, p0⟩] : List (View.Piece (Elt F) S1x512x512 .f32)), y ∈ pc.1.set :=
  View.cover_of_tiled [⟨r1_2, p0⟩] S1x512x512.size (by rfl) y

/-! ## The body's triple -/

set_option maxHeartbeats 1000000 in
/-- The body's triple: from the inputs' blocks and outputs at anything to the inputs kept and the outputs computed. -/
theorem sound_kernel1 (c : Dev nD) (E : Set ℕ) (i : grid1.Coords) (arg3 : Memref sig .tc .vmem S512x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x512 .f32) (harg6 : arg6.IsWhole) (arg7 : Memref sig .tc .vmem S1x512x512 .f32) (harg7 : arg7.IsWhole)
    (x0 : Vec F S512x2048 .f32) (x1 : Vec F S1x2048x512 .f32) (x2 : Vec F S1x2048x512 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1 ∗ owns (c : Thread nD τ) arg5 fullShare x2 ∗ owns (c : Thread nD τ) arg6 fullShare (out1_3 x0 x1 x2) ∗ owns (c : Thread nD τ) arg7 fullShare (out1_4 x0 x1 x2)) -∗ K ⟨⟩))
      ⊢ wp frame (wpE (defs₀ (F := F)) Variants.none c none) E (cc1__fwd_kernel i arg3 harg3 arg4 harg4 arg5 harg5 arg6 harg6 arg7 harg7) K := by
  simp only [cc1__fwd_kernel_eq_skeleton]; unfold cc1__fwd_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_4 _)

/-! ## The pipeline's proof data -/

/-- The proof data of this call on core `c`: the arrays as the call finds them; after the body at point `t` each input
    buffer at its block and each output buffer at what the body computes from the blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => out1_4 (iblk1 V c 0 t) (iblk1 V c 1 t) (iblk1 V c 2 t)
  Φ _ := Pipeline.ΦA spec1 c
  q _ := fullShare
  owed _ := 0

/-- The arrays are the contents the call is entered with. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = out1_4 (iblk1 V c 0 t) (iblk1 V c 1 t) (iblk1 V c 2 t) := by dsimp only [dat1]

/-- Each input buffer holds its block at every point, fetched there or kept. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs hold their blocks, so the triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table at point `t` is the body. -/
theorem defs₀_row1 (t : Fin cfg1.N) :
    defs₀ (F := F) .tc cfg1.body (cfg1.bodyArgs t (cfg1.slots t)) = bodyAt1 t := by
  unfold defs₀; rw [Defs.onTc_tc]

/-- The body meets its obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Whole.KernelIdeal.Call2.lean ====
/- Call 2 of the kernel: the pointwise products. What the body leaves at each grid point, its triple, and the proof data
   of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the call is entered
variable (V : (c : Dev nD) → (b : Ref sig .tc) → Buf (Elt F) ((c : Thread nD τ).loc b))

/-! ## The windows' blocks -/

/-- Window `w`'s block at point `t`, read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S1x2048x512 := Rect.unit (s := S1x2048x512) ![0, 0, 0] S1x1024x512.size inb_S1x2048x512_S1x1024x512_0_0_0
abbrev r2_1 : Rect S1x2048x512 := Rect.unit (s := S1x2048x512) ![0, 1024, 0] S1x1024x512.size inb_S1x2048x512_S1x1024x512_0_1024_0

/-! ## What the body leaves in each output window's buffer -/

/-- Window 2 after the body, from the input blocks. -/
def out2_2 (x0 : Vec F S1x2048x512 .f32) (x1 : Vec F S1x2048x512 .f32) : Vec F S1x2048x512 .f32 :=
  View.canon [⟨r2_1, k2_pay7 (View.ld x0 r2_0) (View.ld x0 r2_1) (View.ld x1 r2_0) (View.ld x1 r2_1)⟩,
    ⟨r2_0, k2_pay6 (View.ld x0 r2_0) (View.ld x0 r2_1) (View.ld x1 r2_0) (View.ld x1 r2_1)⟩]

/-- The stores cover the buffer. -/
theorem cover2_2 (p0 : Vec F S1x1024x512 .f32) (p1 : Vec F S1x1024x512 .f32) (y : S1x2048x512.Idx) :
    ∃ pc ∈ ([⟨r2_1, p0⟩, ⟨r2_0, p1⟩] : List (View.Piece (Elt F) S1x2048x512 .f32)), y ∈ pc.1.set :=
  View.cover_of_tiled [⟨r2_1, p0⟩, ⟨r2_0, p1⟩] S1x1024x512.size (by rfl) y

/-! ## The body's triple -/

set_option maxHeartbeats 1000000 in
/-- The body's triple: from the inputs' blocks and outputs at anything to the inputs kept and the outputs computed. -/
theorem sound_kernel2 (c : Dev nD) (E : Set ℕ) (i : grid2.Coords) (arg2 : Memref sig .tc .vmem S1x2048x512 .f32) (harg2 : arg2.IsWhole) (arg3 : Memref sig .tc .vmem S1x2048x512 .f32) (harg3 : arg3.IsWhole) (arg4 : Memref sig .tc .vmem S1x2048x512 .f32) (harg4 : arg4.IsWhole)
    (x0 : Vec F S1x2048x512 .f32) (x1 : Vec F S1x2048x512 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__point_kernel i arg2 harg2 arg3 harg3 arg4 harg4) K := by
  simp only [cc2__point_kernel_eq_skeleton]; unfold cc2__point_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _ _)

/-! ## The pipeline's proof data -/

/-- The proof data of this call on core `c`: the arrays as the call finds them; after the body at point `t` each input
    buffer at its block and each output buffer at what the body computes from the blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The arrays are the contents the call is entered with. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input buffer holds its block at every point, fetched there or kept. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs hold their blocks, so the triple applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table at point `t` is the body. -/
theorem defs₀_row2 (t : Fin cfg2.N) :
    defs₀ (F := F) .tc cfg2.body (cfg2.bodyArgs t (cfg2.slots t)) = bodyAt2 t := by
  unfold defs₀; rw [Defs.onTc_tc]

/-- The body meets its obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Whole.KernelIdeal.Call3.lean ====
/- Call 3 of the kernel: the inverse transform and its maximum over the lags, accumulated over the grid's last axis.
   What the body leaves at each grid point, its triples, and the proof data of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pipeline.TableIdle

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the call is entered
variable (V : (c : Dev nD) → (b : Ref sig .tc) → Buf (Elt F) ((c : Thread nD τ).loc b))

/-! ## The windows' blocks -/

/-- Window `w`'s block at point `t`, read off its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_0 : Rect S512x2048 := Rect.unit (s := S512x2048) ![0, 0] S512x2048.size inb_S512x2048_S512x2048_0_0
abbrev r3_1 : Rect S1x2048x512 := Rect.unit (s := S1x2048x512) ![0, 0, 0] S1x2048x512.size inb_S1x2048x512_S1x2048x512_0_0_0
abbrev r3_2 : Rect S1x8x512 := Rect.unit (s := S1x8x512) ![0, 0, 0] S1x8x512.size inb_S1x8x512_S1x8x512_0_0_0

/-! ## The two branches: the first lag tile of a column block starts the maximum, the others extend it -/

/-- The first branch is taken where the lag tile is the first. -/
theorem hfirst3 (t : Fin cfg3.N) : k3_cond1 (grid3.coords t) = 1#1 ↔ t.val % 4 = 0 := by
  have ht : t.val < 32 := Nat.lt_of_lt_of_eq t.isLt N_3
  have e2 : (grid3.coords t 2).val = t.val / 1 % 4 := Pipeline.Grid.coords_val t 2 (by decide) rfl
  simp only [k3_cond1, e2]
  word_cmp

/-- The second branch is taken everywhere else. -/
theorem hnext3 (t : Fin cfg3.N) : k3_cond2 (grid3.coords t) = 1#1 ↔ 1 ≤ t.val % 4 := by
  have ht : t.val < 32 := Nat.lt_of_lt_of_eq t.isLt N_3
  have e2 : (grid3.coords t 2).val = t.val / 1 % 4 := Pipeline.Grid.coords_val t 2 (by decide) rfl
  simp only [k3_cond2, e2]
  word_cmp

/-- The output window is stored at every point: one of the two branches is taken. -/
theorem live3_2 (t : Fin cfg3.N) : cfg3.idle 2 (grid3.coords t) = false := by
  show (!(k3_cond1 (grid3.coords t) == 1#1) && !(k3_cond2 (grid3.coords t) == 1#1)) = false
  by_cases h : t.val % 4 = 0
  · rw [(hfirst3 t).mpr h]; rfl
  · rw [(hnext3 t).mpr (by omega)]; simp

/-! ## What the body leaves in the output window's buffer -/

/-- The running maximum started from the input blocks. -/
def start3 (x0 : Vec F S512x2048 .f32) (x1 : Vec F S1x2048x512 .f32) : Vec F S1x8x512 .f32 :=
  View.canon [⟨r3_2, k3_pay2 (View.ld x0 r3_0) (View.ld x1 r3_1)⟩]

/-- The running maximum `x2` extended by the input blocks. -/
def next3 (x0 : Vec F S512x2048 .f32) (x1 : Vec F S1x2048x512 .f32) (x2 : Vec F S1x8x512 .f32) : Vec F S1x8x512 .f32 :=
  View.canon [⟨r3_2, k3_pay3 (View.ld x0 r3_0) (View.ld x1 r3_1) (View.ld x2 r3_2)⟩]

/-- The store covers the buffer. -/
theorem cover3_2 (p0 : Vec F S1x8x512 .f32) (y : S1x8x512.Idx) :
    ∃ pc ∈ ([⟨r3_2, p0⟩] : List (View.Piece (Elt F) S1x8x512 .f32)), y ∈ pc.1.set :=
  View.cover_of_tiled [⟨r3_2, p0⟩] S1x8x512.size (by rfl) y

/-! ## The body's triples -/

set_option maxHeartbeats 1000000 in
/-- At a first lag tile: from the inputs' blocks and the output at anything to the maximum started. -/
theorem sound_first3 (c : Dev nD) (E : Set ℕ) (i : grid3.Coords) (arg3 : Memref sig .tc .vmem S512x2048 .f32) (harg3 : arg3.IsWhole) (arg4 : Memref sig .tc .vmem S1x2048x512 .f32) (harg4 : arg4.IsWhole) (arg5 : Memref sig .tc .vmem S1x8x512 .f32) (harg5 : arg5.IsWhole)
    (h1 : k3_cond1 i = 1#1) (h2 : ¬ k3_cond2 i = 1#1)
    (x0 : Vec F S512x2048 .f32) (x1 : Vec F S1x2048x512 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (start3 x0 x1)) -∗ K ⟨⟩))
      ⊢ wp frame (wpE (defs₀ (F := F)) Variants.none c none) E (cc3__inv_kernel i arg3 harg3 arg4 harg4 arg5 harg5) K := by
  simp only [cc3__inv_kernel_eq_skeleton]; unfold cc3__inv_kernel_skel
  unfold owns
  iintro ⟨⟨%f0, %hf0, H0⟩, ⟨%f1, %hf1, H1⟩, ⟨%d2, %f2, -, H2⟩, Hk⟩
  subst hf0 hf1
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

set_option maxHeartbeats 1000000 in
/-- At a later lag tile: from the inputs' blocks and the maximum so far to the maximum extended. -/
theorem sound_next3 (c : Dev nD) (E : Set ℕ) (i : grid3.Coords) (arg3 : Memref sig .tc .vmem S512x2048 .f32) (harg3 : arg3.IsWhole) (arg4 : Memref sig .tc .vmem S1x2048x512 .f32) (harg4 : arg4.IsWhole) (arg5 : Memref sig .tc .vmem S1x8x512 .f32) (harg5 : arg5.IsWhole)
    (h1 : ¬ k3_cond1 i = 1#1) (h2 : k3_cond2 i = 1#1)
    (x0 : Vec F S512x2048 .f32) (x1 : Vec F S1x2048x512 .f32) (x2 : Vec F S1x8x512 .f32) (K : PUnit → sProp 𝕄) :
    iprop(owns (c : Thread nD τ) arg3 fullShare x0 ∗ owns (c : Thread nD τ) arg4 fullShare x1 ∗ owns (c : Thread nD τ) arg5 fullShare x2
        ∗ (iprop(owns (c : Thread nD τ) arg3 fullShare x0 ∗ owns (c : Thread nD τ) arg4 fullShare x1 ∗ owns (c : Thread nD τ) arg5 fullShare (next3 x0 x1 x2)) -∗ K ⟨⟩))
      ⊢ wp frame (wpE (defs₀ (F := F)) Variants.none c none) E (cc3__inv_kernel i arg3 harg3 arg4 harg4 arg5 harg5) K := by
  simp only [cc3__inv_kernel_eq_skeleton]; unfold cc3__inv_kernel_skel
  unfold owns
  iintro ⟨⟨%f0, %hf0, H0⟩, ⟨%f1, %hf1, H1⟩, ⟨%f2, %hf2, H2⟩, Hk⟩
  subst hf0 hf1 hf2
  sl_exec (disch := first | sl_exact h1 | sl_exact h2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The output window's buffer after the body at point `n`: started at a first lag tile, else the point before's extended. -/
def acc3 (c : Dev nD) : (n : ℕ) → n < cfg3.N → Vec F S1x8x512 .f32
  | 0, h => start3 (iblk3 V c 0 ⟨0, h⟩) (iblk3 V c 1 ⟨0, h⟩)
  | n + 1, h =>
    if (n + 1) % 4 = 0 then start3 (iblk3 V c 0 ⟨n + 1, h⟩) (iblk3 V c 1 ⟨n + 1, h⟩)
    else next3 (iblk3 V c 0 ⟨n + 1, h⟩) (iblk3 V c 1 ⟨n + 1, h⟩) (acc3 c n (Nat.lt_of_succ_lt h))

theorem acc3_first (c : Dev nD) (t : Fin cfg3.N) (h : t.val % 4 = 0) :
    acc3 V c t.val t.isLt = start3 (iblk3 V c 0 t) (iblk3 V c 1 t) := by
  obtain ⟨n, hn⟩ := t
  cases n with
  | zero => rfl
  | succ n => exact if_pos h

theorem acc3_next (c : Dev nD) (t : Fin cfg3.N) (h : ¬ t.val % 4 = 0) :
    acc3 V c t.val t.isLt = next3 (iblk3 V c 0 t) (iblk3 V c 1 t) (acc3 V c (t.val - 1) (by omega)) := by
  obtain ⟨n, hn⟩ := t
  cases n with
  | zero => exact absurd rfl h
  | succ n => exact if_neg h

/-- The proof data of this call on core `c`: the arrays as the call finds them; after the body at point `t` each input
    buffer at its block and the output buffer at the maximum so far; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ _ := Pipeline.ΦA spec3 c
  q _ := fullShare
  owed _ := 0

/-- The arrays are the contents the call is entered with. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

/-- Each input buffer holds its block at every point, fetched there or kept. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)

/-- The output buffer holds nothing of the body's exactly at the first lag tiles. -/
theorem fresh3 (n : ℕ) (hn : n ≤ cfg3.N) : cfg3.fresh 2 n = decide (n % 4 = 0) := by
  refine cfg3.fresh_tab 2 (fun n => decide (n % 4 = 0)) rfl (fun t => ?_) n hn
  rw [live3_2 t, Bool.false_and, Bool.or_false]
  apply Bool.eq_iff_iff.mpr
  rw [flush3_2 t]
  simp only [decide_eq_true_eq]
  omega

/-- At a later lag tile the output buffer holds the maximum so far. -/
theorem before3_2 (c : Dev nD) (t : Fin cfg3.N) (h : ¬ t.val % 4 = 0) (d) :
    (dat3 V c).before 2 t d = acc3 V c (t.val - 1) (by omega) := by
  rw [(dat3 V c).before_out_traj 2 rfl (fun _ _ => rfl)
    (fun t _ hi _ => absurd hi (by rw [show cfg3.idle 2 (cfg3.grid.coords t) = false from live3_2 t]; decide)) t.val t rfl d,
    fresh3 t.val (Nat.le_of_lt t.isLt), if_neg (by simpa using h), after3_2]

/-! ## The body obligation, at a generic point -/

/-- What the body is called with at point `t`, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ (dat3 V c).leavesExact 2 t)

/-- The body at any point: the inputs hold their blocks and, past the first lag tile, the output the maximum so far. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1,
    show (dat3 V c).leavesExact 2 t = owns (c : Thread nD τ) (st3_2 t) fullShare ((dat3 V c).after 2 t) from by
      unfold Dat.leavesExact; rw [live3_2 t], after3_2]
  by_cases h : t.val % 4 = 0
  · rw [acc3_first V c t h]
    iintro ⟨HΦ, Ho, ⟨%d0, H0⟩, ⟨%d1, H1⟩, ⟨%d2, H2⟩⟩
    iapply (sound_first3 c Set.univ (grid3.coords t) _ _ _ _ _ _ ((hfirst3 t).mpr h) (fun h' => absurd ((hnext3 t).mp h') (by omega)) (iblk3 V c 0 t) (iblk3 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [acc3_next V c t h]
    simp only [before3_2 V c t h]
    iintro ⟨HΦ, Ho, ⟨%d0, H0⟩, ⟨%d1, H1⟩, ⟨%d2, H2⟩⟩
    iapply (sound_next3 c Set.univ (grid3.coords t) _ _ _ _ _ _ (fun h' => h ((hfirst3 t).mp h')) ((hnext3 t).mpr (by omega)) (iblk3 V c 0 t) (iblk3 V c 1 t) (acc3 V c (t.val - 1) (by omega)) _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The body table at point `t` is the body. -/
theorem defs₀_row3 (t : Fin cfg3.N) :
    defs₀ (F := F) .tc cfg3.body (cfg3.bodyArgs t (cfg3.slots t)) = bodyAt3 t := by
  unfold defs₀; rw [Defs.onTc_tc]

/-- The body meets its obligation at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Whole

end
-- ==== Proof.Whole.KernelIdeal.Call4.lean ====
/- Call 4 of the kernel: the layout of the values per head. What the body leaves at each grid point, its triple, and the proof data
   of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the call is entered
variable (V : (c : Dev nD) → (b : Ref sig .tc) → Buf (Elt F) ((c : Thread nD τ).loc b))

/-! ## The windows' blocks -/

/-- Window `w`'s block at point `t`, read off its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses -/

abbrev r4_0 : Rect S1x16x64x128 := Rect.unit (s := S1x16x64x128) ![0, 0, 0, 0] S1x16x64x128.size inb_S1x16x64x128_S1x16x64x128_0_0_0_0

/-! ## What the body leaves in each output window's buffer -/

/-- Window 1 after the body, from the input blocks. -/
def out4_1 (x0 : Vec F S1x16x64x128 .f32) : Vec F S1x16x64x128 .f32 :=
  View.canon [⟨r4_0, k4_pay1 (View.ld x0 r4_0)⟩]

/-- The stores cover the buffer. -/
theorem cover4_1 (p0 : Vec F S1x16x64x128 .f32) (y : S1x16x64x128.Idx) :
    ∃ pc ∈ ([⟨r4_0, p0⟩] : List (View.Piece (Elt F) S1x16x64x128 .f32)), y ∈ pc.1.set :=
  View.cover_of_tiled [⟨r4_0, p0⟩] S1x16x64x128.size (by rfl) y

/-! ## The body's triple -/

set_option maxHeartbeats 1000000 in
/-- The body's triple: from the inputs' blocks and outputs at anything to the inputs kept and the outputs computed. -/
theorem sound_kernel4 (c : Dev nD) (E : Set ℕ) (i : grid4.Coords) (arg1 : Memref sig .tc .vmem S1x16x64x128 .f32) (harg1 : arg1.IsWhole) (arg2 : Memref sig .tc .vmem S1x16x64x128 .f32) (harg2 : arg2.IsWhole)
    (x0 : Vec F S1x16x64x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__fmt_kernel i arg1 harg1 arg2 harg2) K := by
  simp only [cc4__fmt_kernel_eq_skeleton]; unfold cc4__fmt_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The pipeline's proof data -/

/-- The proof data of this call on core `c`: the arrays as the call finds them; after the body at point `t` each input
    buffer at its block and each output buffer at what the body computes from the blocks; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

/-- The arrays are the contents the call is entered with. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- Each input buffer holds its block at every point, fetched there or kept. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

/-! ## The body obligation, at a generic point -/

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point: the inputs hold their blocks, so the triple applies. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ (grid4.coords t) _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table at point `t` is the body. -/
theorem defs₀_row4 (t : Fin cfg4.N) :
    defs₀ (F := F) .tc cfg4.body (cfg4.bodyArgs t (cfg4.slots t)) = bodyAt4 t := by
  unfold defs₀; rw [Defs.onTc_tc]

/-- The body meets its obligation at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Whole

end
-- ==== Proof.Whole.KernelIdeal.Call5.lean ====
/- Call 5 of the kernel: the shift selection and the output projection. What the body leaves at each grid point, its triple, and the proof data
   of its pipeline. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- the buffer contents when the call is entered
variable (V : (c : Dev nD) → (b : Ref sig .tc) → Buf (Elt F) ((c : Thread nD τ).loc b))

/-! ## The windows' blocks -/

/-- Window `w`'s block at point `t`, read off its array. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses -/

abbrev r5_0 : Rect S1x1x1024 := Rect.unit (s := S1x1x1024) ![0, 0, 0] S1x1x1024.size inb_S1x1x1024_S1x1x1024_0_0_0
abbrev r5_1 : Rect S1x512x1024 := Rect.unit (s := S1x512x1024) ![0, 0, 0] S1x512x1024.size inb_S1x512x1024_S1x512x1024_0_0_0
abbrev r5_2 : Rect S1x512x1024 := Rect.unit (s := S1x512x1024) ![0, 511, 0] S1x1x1024.size inb_S1x512x1024_S1x1x1024_0_511_0
abbrev r5_3 : Rect S1024x1024 := Rect.unit (s := S1024x1024) ![0, 0] S1024x1024.size inb_S1024x1024_S1024x1024_0_0
abbrev r5_4 : Rect S1x1024 := Rect.unit (s := S1x1024) ![0, 0] S1x1024.size inb_S1x1024_S1x1024_0_0

/-! ## What the body leaves in each output window's buffer -/

/-- Window 5 after the body, from the input blocks. -/
def out5_5 (x0 : Vec F S1x1x1024 .f32) (x1 : Vec F S1x512x1024 .f32) (x2 : Vec F S1x512x1024 .f32) (x3 : Vec F S1024x1024 .f32) (x4 : Vec F S1x1024 .f32) : Vec F S1x512x1024 .f32 :=
  View.canon [⟨r5_1, k5_pay1 (View.ld x0 r5_0) (View.ld x1 r5_1) (View.ld x2 r5_2) (View.ld x3 r5_3) (View.ld x4 r5_4)⟩]

/-- The stores cover the buffer. -/
theorem cover5_5 (p0 : Vec F S1x512x1024 .f32) (y : S1x512x1024.Idx) :
    ∃ pc ∈ ([⟨r5_1, p0⟩] : List (View.Piece (Elt F) S1x512x1024 .f32)), y ∈ pc.1.set :=
  View.cover_of_tiled [⟨r5_1, p0⟩] S1x512x1024.size (by rfl) y

/-! ## The body's triple -/

set_option maxHeartbeats 1000000 in
/-- The body's triple: from the inputs' blocks and outputs at anything to the inputs kept and the outputs computed. -/
theorem sound_kernel5 (c : Dev nD) (E : Set ℕ) (i : grid5.Coords) (arg2 : Memref sig .tc .vmem S1x1x1024 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S1x512x1024 .f32) (harg7 : arg7.IsWhole)
    (x0 : Vec F S1x1x1024 .f32) (x1 : Vec F S1x512x1024 .f32) (x2 : Vec F S1x512x1024 .f32) (x3 : Vec F S1024x1024 .f32) (x4 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (out5_5 x0 x1 x2 x3 x4)) -∗ K ⟨⟩))
      ⊢ wp frame (wpE (defs₀ (F := F)) Variants.none c none) E (cc5__out_kernel i arg2 harg2 arg3 harg3 arg4 harg4 arg5 harg5 arg6 harg6 arg7 harg7) K := by
  simp only [cc5__out_kernel_eq_skeleton]; unfold cc5__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of this call on core `c`: the arrays as the call finds them; after the body at point `t` each input
    buffer at its block and each output buffer at what the body computes from the blocks; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q w := Pipeline.shareOf spec5 w
  owed _ := 0

/-- The arrays are the contents the call is entered with. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

/-- Each input buffer holds its block at every point, fetched there or kept. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## The body obligation, at a generic point -/

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs hold their blocks, so the triple applies. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table at point `t` is the body. -/
theorem defs₀_row5 (t : Fin cfg5.N) :
    defs₀ (F := F) .tc cfg5.body (cfg5.bodyArgs t (cfg5.slots t)) = bodyAt5 t := by
  unfold defs₀; rw [Defs.onTc_tc]

/-- The body meets its obligation at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.KernelIdeal.Whole

end
-- ==== Proof.Whole.KernelIdeal.Run.lean ====
/- The whole run: the buffer contents at each boundary between host stretches and calls, the segments, the run to its
   last contents, and the frame. -/
module

public import proofs.«01_k».proof.Proof.Whole.KernelIdeal.Call0
public import proofs.«01_k».proof.Proof.Whole.KernelIdeal.Call1
public import proofs.«01_k».proof.Proof.Whole.KernelIdeal.Call2
public import proofs.«01_k».proof.Proof.Whole.KernelIdeal.Call3
public import proofs.«01_k».proof.Proof.Whole.KernelIdeal.Call4
public import proofs.«01_k».proof.Proof.Whole.KernelIdeal.Call5
public import proofs.«01_k».proof.Proof.Whole.Region
public import proofs.«01_k».proof.Proof.Gen.KernelIdeal.Regions

@[expose] public section

-- membership in rectangles of long axes recurses once per coordinate
set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10]

/-- The buffers of every core, read at the TensorCore's references. -/
abbrev read (W : Dev nD → Valuation τ sig (Elt F)) : (c : Dev nD) → (b : Ref sig .tc) → Buf (Elt F) ((c : Thread nD τ).loc b) := fun c b => W c b

/-- A valuation with every argument as launched. -/
def Kept (W : Dev nD → Valuation τ sig (Elt F)) : Prop :=
  ∀ (c : Dev nD), ∀ a ∈ argRefs, W c (Proc.devRef .tc a) = m ((c : Thread nD τ).loc a)

/-- A host stretch that writes none of the arguments keeps them. -/
theorem Kept.host {W : Dev nD → Valuation τ sig (Elt F)} (h : Kept m W) (ops : List (HloOp τ sig (Elt F))) (l : List (Ref sig .tc))
    (hw : ops.Forall fun op => op.writes ⊆ (l.map (Proc.devRef (τ := τ) .tc)).toFinset) (hl : ∀ a ∈ argRefs, a ∉ l) :
    Kept m (fun c => StableHlo.after ops (W c)) := fun c a ha =>
  (StableHlo.after_of_writes_sub ops _ hw (hl a ha)).trans (h c a ha)

/-- A call whose output arrays hold none of the arguments keeps them. -/
theorem Kept.call {W W' : Dev nD → Valuation τ sig (Elt F)} (h : Kept m W) (O : Ref sig .tc → Prop)
    (hW : ∀ (c : Dev nD) (r : Ref sig .tc), O r → W' c (Proc.devRef .tc r) = W c (Proc.devRef .tc r)) (hO : ∀ a ∈ argRefs, O a) :
    Kept m W' := fun c a ha => (hW c a (hO a ha)).trans (h c a ha)

/-! ## The buffer contents at each boundary -/

/-- At launch. -/
abbrev W0 : Dev nD → Valuation τ sig (Elt F) := fun c b => m ((c : Dev nD), b)
theorem W0_kept : Kept m (W0 m) := fun _ _ _ => rfl

/-- After the host stretch `hostOps0`. -/
abbrev W1 : Dev nD → Valuation τ sig (Elt F) := fun c => StableHlo.after hostOps0 (W0 m c)
theorem W1_kept : Kept m (W1 m) := (W0_kept m).host m hostOps0 hostOps0_W hostOps0_writes (ListAll.forall_mem_of_all_decide (by decide +kernel))

/-- After the host stretch `hostOps0_1`. -/
abbrev W2 : Dev nD → Valuation τ sig (Elt F) := fun c => StableHlo.after hostOps0_1 (W1 m c)
theorem W2_kept : Kept m (W2 m) := (W1_kept m).host m hostOps0_1 hostOps0_1_W hostOps0_1_writes (ListAll.forall_mem_of_all_decide (by decide +kernel))

/-- After the host stretch `hostOps0_2`. -/
abbrev W3 : Dev nD → Valuation τ sig (Elt F) := fun c => StableHlo.after hostOps0_2 (W2 m c)
theorem W3_kept : Kept m (W3 m) := (W2_kept m).host m hostOps0_2 hostOps0_2_W hostOps0_2_writes (ListAll.forall_mem_of_all_decide (by decide +kernel))

/-- After the host stretch `hostOps0_3`. -/
abbrev W4 : Dev nD → Valuation τ sig (Elt F) := fun c => StableHlo.after hostOps0_3 (W3 m c)
theorem W4_kept : Kept m (W4 m) := (W3_kept m).host m hostOps0_3 hostOps0_3_W hostOps0_3_writes (ListAll.forall_mem_of_all_decide (by decide +kernel))

/-- After the host stretch `hostOps0_4`. -/
abbrev W5 : Dev nD → Valuation τ sig (Elt F) := fun c => StableHlo.after hostOps0_4 (W4 m c)
theorem W5_kept : Kept m (W5 m) := (W4_kept m).host m hostOps0_4 hostOps0_4_W hostOps0_4_writes (ListAll.forall_mem_of_all_decide (by decide +kernel))

/-- After the host stretch `hostOps0_5`. -/
abbrev W6 : Dev nD → Valuation τ sig (Elt F) := fun c => StableHlo.after hostOps0_5 (W5 m c)
theorem W6_kept : Kept m (W6 m) := (W5_kept m).host m hostOps0_5 hostOps0_5_W hostOps0_5_writes (ListAll.forall_mem_of_all_decide (by decide +kernel))

/-- After the host stretch `hostOps0_6`. -/
abbrev W7 : Dev nD → Valuation τ sig (Elt F) := fun c => StableHlo.after hostOps0_6 (W6 m c)
theorem W7_kept : Kept m (W7 m) := (W6_kept m).host m hostOps0_6 hostOps0_6_W hostOps0_6_writes (ListAll.forall_mem_of_all_decide (by decide +kernel))

/-- After the host stretch `hostOps0_7`. -/
abbrev W8 : Dev nD → Valuation τ sig (Elt F) := fun c => StableHlo.after hostOps0_7 (W7 m c)
theorem W8_kept : Kept m (W8 m) := (W7_kept m).host m hostOps0_7 hostOps0_7_W hostOps0_7_writes (ListAll.forall_mem_of_all_decide (by decide +kernel))

/-- After the host stretch `hostOps0_8`. -/
abbrev W9 : Dev nD → Valuation τ sig (Elt F) := fun c => StableHlo.after hostOps0_8 (W8 m c)
theorem W9_kept : Kept m (W9 m) := (W8_kept m).host m hostOps0_8 hostOps0_8_W hostOps0_8_writes (ListAll.forall_mem_of_all_decide (by decide +kernel))

/-- After call 0: its arrays at what it leaves, every other buffer as before. -/
def W10 (c : Dev nD) : Valuation τ sig (Elt F) :=
  Pipeline.withArrays spec0 c (W9 m c) fun w => (dat0 (read (W9 m)) c).arrAt w cfg0.N
theorem W10_arr (c : Dev nD) (w : Fin cfg0.W) :
    W10 m c (Proc.devRef .tc (Pipeline.arrRef spec0 w)) = (dat0 (read (W9 m)) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m c (Proc.devRef .tc b) = W9 m c (Proc.devRef .tc b) := by
  unfold W10; exact Pipeline.withArrays_of_ne spec0 c _ _ b hb
/-- A reference that is none of the call's output arrays keeps its contents. -/
theorem W10_of (c : Dev nD) (r : Ref sig .tc) (h : ∀ w : Fin cfg0.W, Pipeline.arrRef spec0 w = r → (cfg0.win w).isOut = false) :
    W10 m c (Proc.devRef .tc r) = W9 m c (Proc.devRef .tc r) := by
  by_cases hw : ∃ w : Fin cfg0.W, Pipeline.arrRef spec0 w = r
  · obtain ⟨w, rfl⟩ := hw
    exact (W10_arr m c w).trans (((dat0 (read (W9 m)) c).arrAt_in w (h w rfl) _).trans (A_eq0 (read (W9 m)) c w))
  · exact W10_of_ne m c r fun w e => hw ⟨w, e⟩
theorem W10_kept : Kept m (W10 m) :=
  (W9_kept m).call m (fun r => ∀ w : Fin cfg0.W, Pipeline.arrRef spec0 w = r → (cfg0.win w).isOut = false)
    (W10_of m) (ListAll.forall_mem_of_all_decide (by decide +kernel))
theorem rest0 (c : Dev nD) : ∀ b, b ∉ Finset.univ.image (Pipeline.arrRef spec0) → read (W10 m) c b = read (W9 m) c b :=
  fun b hb => W10_of_ne m c b fun w e => hb (Finset.mem_image.mpr ⟨w, Finset.mem_univ _, e⟩)

/-- After the host stretch `hostOps1`. -/
abbrev W11 : Dev nD → Valuation τ sig (Elt F) := fun c => StableHlo.after hostOps1 (W10 m c)
theorem W11_kept : Kept m (W11 m) := (W10_kept m).host m hostOps1 hostOps1_W hostOps1_writes (ListAll.forall_mem_of_all_decide (by decide +kernel))

/-- After call 1: its arrays at what it leaves, every other buffer as before. -/
def W12 (c : Dev nD) : Valuation τ sig (Elt F) :=
  Pipeline.withArrays spec1 c (W11 m c) fun w => (dat1 (read (W11 m)) c).arrAt w cfg1.N
theorem W12_arr (c : Dev nD) (w : Fin cfg1.W) :
    W12 m c (Proc.devRef .tc (Pipeline.arrRef spec1 w)) = (dat1 (read (W11 m)) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m c (Proc.devRef .tc b) = W11 m c (Proc.devRef .tc b) := by
  unfold W12; exact Pipeline.withArrays_of_ne spec1 c _ _ b hb
/-- A reference that is none of the call's output arrays keeps its contents. -/
theorem W12_of (c : Dev nD) (r : Ref sig .tc) (h : ∀ w : Fin cfg1.W, Pipeline.arrRef spec1 w = r → (cfg1.win w).isOut = false) :
    W12 m c (Proc.devRef .tc r) = W11 m c (Proc.devRef .tc r) := by
  by_cases hw : ∃ w : Fin cfg1.W, Pipeline.arrRef spec1 w = r
  · obtain ⟨w, rfl⟩ := hw
    exact (W12_arr m c w).trans (((dat1 (read (W11 m)) c).arrAt_in w (h w rfl) _).trans (A_eq1 (read (W11 m)) c w))
  · exact W12_of_ne m c r fun w e => hw ⟨w, e⟩
theorem W12_kept : Kept m (W12 m) :=
  (W11_kept m).call m (fun r => ∀ w : Fin cfg1.W, Pipeline.arrRef spec1 w = r → (cfg1.win w).isOut = false)
    (W12_of m) (ListAll.forall_mem_of_all_decide (by decide +kernel))
theorem rest1 (c : Dev nD) : ∀ b, b ∉ Finset.univ.image (Pipeline.arrRef spec1) → read (W12 m) c b = read (W11 m) c b :=
  fun b hb => W12_of_ne m c b fun w e => hb (Finset.mem_image.mpr ⟨w, Finset.mem_univ _, e⟩)

/-- After call 2: its arrays at what it leaves, every other buffer as before. -/
def W13 (c : Dev nD) : Valuation τ sig (Elt F) :=
  Pipeline.withArrays spec2 c (W12 m c) fun w => (dat2 (read (W12 m)) c).arrAt w cfg2.N
theorem W13_arr (c : Dev nD) (w : Fin cfg2.W) :
    W13 m c (Proc.devRef .tc (Pipeline.arrRef spec2 w)) = (dat2 (read (W12 m)) c).arrAt w cfg2.N := by
  unfold W13; exact Pipeline.withArrays_arr spec2 launch2.win.arr_inj c _ _ w
theorem W13_of_ne (c : Dev nD) (b : Ref sig .tc) (hb : ∀ w, Pipeline.arrRef spec2 w ≠ b) :
    W13 m c (Proc.devRef .tc b) = W12 m c (Proc.devRef .tc b) := by
  unfold W13; exact Pipeline.withArrays_of_ne spec2 c _ _ b hb
/-- A reference that is none of the call's output arrays keeps its contents. -/
theorem W13_of (c : Dev nD) (r : Ref sig .tc) (h : ∀ w : Fin cfg2.W, Pipeline.arrRef spec2 w = r → (cfg2.win w).isOut = false) :
    W13 m c (Proc.devRef .tc r) = W12 m c (Proc.devRef .tc r) := by
  by_cases hw : ∃ w : Fin cfg2.W, Pipeline.arrRef spec2 w = r
  · obtain ⟨w, rfl⟩ := hw
    exact (W13_arr m c w).trans (((dat2 (read (W12 m)) c).arrAt_in w (h w rfl) _).trans (A_eq2 (read (W12 m)) c w))
  · exact W13_of_ne m c r fun w e => hw ⟨w, e⟩
theorem W13_kept : Kept m (W13 m) :=
  (W12_kept m).call m (fun r => ∀ w : Fin cfg2.W, Pipeline.arrRef spec2 w = r → (cfg2.win w).isOut = false)
    (W13_of m) (ListAll.forall_mem_of_all_decide (by decide +kernel))
theorem rest2 (c : Dev nD) : ∀ b, b ∉ Finset.univ.image (Pipeline.arrRef spec2) → read (W13 m) c b = read (W12 m) c b :=
  fun b hb => W13_of_ne m c b fun w e => hb (Finset.mem_image.mpr ⟨w, Finset.mem_univ _, e⟩)

/-- After call 3: its arrays at what it leaves, every other buffer as before. -/
def W14 (c : Dev nD) : Valuation τ sig (Elt F) :=
  Pipeline.withArrays spec3 c (W13 m c) fun w => (dat3 (read (W13 m)) c).arrAt w cfg3.N
theorem W14_arr (c : Dev nD) (w : Fin cfg3.W) :
    W14 m c (Proc.devRef .tc (Pipeline.arrRef spec3 w)) = (dat3 (read (W13 m)) c).arrAt w cfg3.N := by
  unfold W14; exact Pipeline.withArrays_arr spec3 launch3.win.arr_inj c _ _ w
theorem W14_of_ne (c : Dev nD) (b : Ref sig .tc) (hb : ∀ w, Pipeline.arrRef spec3 w ≠ b) :
    W14 m c (Proc.devRef .tc b) = W13 m c (Proc.devRef .tc b) := by
  unfold W14; exact Pipeline.withArrays_of_ne spec3 c _ _ b hb
/-- A reference that is none of the call's output arrays keeps its contents. -/
theorem W14_of (c : Dev nD) (r : Ref sig .tc) (h : ∀ w : Fin cfg3.W, Pipeline.arrRef spec3 w = r → (cfg3.win w).isOut = false) :
    W14 m c (Proc.devRef .tc r) = W13 m c (Proc.devRef .tc r) := by
  by_cases hw : ∃ w : Fin cfg3.W, Pipeline.arrRef spec3 w = r
  · obtain ⟨w, rfl⟩ := hw
    exact (W14_arr m c w).trans (((dat3 (read (W13 m)) c).arrAt_in w (h w rfl) _).trans (A_eq3 (read (W13 m)) c w))
  · exact W14_of_ne m c r fun w e => hw ⟨w, e⟩
theorem W14_kept : Kept m (W14 m) :=
  (W13_kept m).call m (fun r => ∀ w : Fin cfg3.W, Pipeline.arrRef spec3 w = r → (cfg3.win w).isOut = false)
    (W14_of m) (ListAll.forall_mem_of_all_decide (by decide +kernel))
theorem rest3 (c : Dev nD) : ∀ b, b ∉ Finset.univ.image (Pipeline.arrRef spec3) → read (W14 m) c b = read (W13 m) c b :=
  fun b hb => W14_of_ne m c b fun w e => hb (Finset.mem_image.mpr ⟨w, Finset.mem_univ _, e⟩)

/-- After the host stretch `hostOps4`. -/
abbrev W15 : Dev nD → Valuation τ sig (Elt F) := fun c => StableHlo.after hostOps4 (W14 m c)
theorem W15_kept : Kept m (W15 m) := (W14_kept m).host m hostOps4 hostOps4_W hostOps4_writes (ListAll.forall_mem_of_all_decide (by decide +kernel))

/-- After call 4: its arrays at what it leaves, every other buffer as before. -/
def W16 (c : Dev nD) : Valuation τ sig (Elt F) :=
  Pipeline.withArrays spec4 c (W15 m c) fun w => (dat4 (read (W15 m)) c).arrAt w cfg4.N
theorem W16_arr (c : Dev nD) (w : Fin cfg4.W) :
    W16 m c (Proc.devRef .tc (Pipeline.arrRef spec4 w)) = (dat4 (read (W15 m)) c).arrAt w cfg4.N := by
  unfold W16; exact Pipeline.withArrays_arr spec4 launch4.win.arr_inj c _ _ w
theorem W16_of_ne (c : Dev nD) (b : Ref sig .tc) (hb : ∀ w, Pipeline.arrRef spec4 w ≠ b) :
    W16 m c (Proc.devRef .tc b) = W15 m c (Proc.devRef .tc b) := by
  unfold W16; exact Pipeline.withArrays_of_ne spec4 c _ _ b hb
/-- A reference that is none of the call's output arrays keeps its contents. -/
theorem W16_of (c : Dev nD) (r : Ref sig .tc) (h : ∀ w : Fin cfg4.W, Pipeline.arrRef spec4 w = r → (cfg4.win w).isOut = false) :
    W16 m c (Proc.devRef .tc r) = W15 m c (Proc.devRef .tc r) := by
  by_cases hw : ∃ w : Fin cfg4.W, Pipeline.arrRef spec4 w = r
  · obtain ⟨w, rfl⟩ := hw
    exact (W16_arr m c w).trans (((dat4 (read (W15 m)) c).arrAt_in w (h w rfl) _).trans (A_eq4 (read (W15 m)) c w))
  · exact W16_of_ne m c r fun w e => hw ⟨w, e⟩
theorem W16_kept : Kept m (W16 m) :=
  (W15_kept m).call m (fun r => ∀ w : Fin cfg4.W, Pipeline.arrRef spec4 w = r → (cfg4.win w).isOut = false)
    (W16_of m) (ListAll.forall_mem_of_all_decide (by decide +kernel))
theorem rest4 (c : Dev nD) : ∀ b, b ∉ Finset.univ.image (Pipeline.arrRef spec4) → read (W16 m) c b = read (W15 m) c b :=
  fun b hb => W16_of_ne m c b fun w e => hb (Finset.mem_image.mpr ⟨w, Finset.mem_univ _, e⟩)

/-- After the host stretch `hostOps5`. -/
abbrev W17 : Dev nD → Valuation τ sig (Elt F) := fun c => StableHlo.after hostOps5 (W16 m c)
theorem W17_kept : Kept m (W17 m) := (W16_kept m).host m hostOps5 hostOps5_W hostOps5_writes (ListAll.forall_mem_of_all_decide (by decide +kernel))

/-- After call 5: its arrays at what it leaves, every other buffer as before. -/
def W18 (c : Dev nD) : Valuation τ sig (Elt F) :=
  Pipeline.withArrays spec5 c (W17 m c) fun w => (dat5 (read (W17 m)) c).arrAt w cfg5.N
theorem W18_arr (c : Dev nD) (w : Fin cfg5.W) :
    W18 m c (Proc.devRef .tc (Pipeline.arrRef spec5 w)) = (dat5 (read (W17 m)) c).arrAt w cfg5.N := by
  unfold W18; exact (dat5 (read (W17 m)) c).withArrays_arrAt launch₀5.sharedIn _ (A_eq5 (read (W17 m)) c) w
theorem W18_of_ne (c : Dev nD) (b : Ref sig .tc) (hb : ∀ w, Pipeline.arrRef spec5 w ≠ b) :
    W18 m c (Proc.devRef .tc b) = W17 m c (Proc.devRef .tc b) := by
  unfold W18; exact Pipeline.withArrays_of_ne spec5 c _ _ b hb
/-- A reference that is none of the call's output arrays keeps its contents. -/
theorem W18_of (c : Dev nD) (r : Ref sig .tc) (h : ∀ w : Fin cfg5.W, Pipeline.arrRef spec5 w = r → (cfg5.win w).isOut = false) :
    W18 m c (Proc.devRef .tc r) = W17 m c (Proc.devRef .tc r) := by
  by_cases hw : ∃ w : Fin cfg5.W, Pipeline.arrRef spec5 w = r
  · obtain ⟨w, rfl⟩ := hw
    exact (W18_arr m c w).trans (((dat5 (read (W17 m)) c).arrAt_in w (h w rfl) _).trans (A_eq5 (read (W17 m)) c w))
  · exact W18_of_ne m c r fun w e => hw ⟨w, e⟩
theorem W18_kept : Kept m (W18 m) :=
  (W17_kept m).call m (fun r => ∀ w : Fin cfg5.W, Pipeline.arrRef spec5 w = r → (cfg5.win w).isOut = false)
    (W18_of m) (ListAll.forall_mem_of_all_decide (by decide +kernel))
theorem rest5 (c : Dev nD) : ∀ b, b ∉ Finset.univ.image (Pipeline.arrRef spec5) → read (W18 m) c b = read (W17 m) c b :=
  fun b hb => W18_of_ne m c b fun w e => hb (Finset.mem_image.mpr ⟨w, Finset.mem_univ _, e⟩)

/-! ## The segments -/

/-- No call has a prefetched table. -/
abbrev adm : (p : Fin 6) → (pcfgs (F := F) p).Adm := fun p => (cfgs p).toPCfg_adm
/-- Every call's proof data, each at its entry contents. -/
def pdats : (p : Fin 6) → (c : Dev nD) → Dat τ (Elt F) Unit ℕ (UR sig nD τ) ℕ (Pipeline.pin (pcfgs (F := F)) adm p) c
  | ⟨0, _⟩ => fun c => dat0 (read (W9 m)) c
  | ⟨1, _⟩ => fun c => dat1 (read (W11 m)) c
  | ⟨2, _⟩ => fun c => dat2 (read (W12 m)) c
  | ⟨3, _⟩ => fun c => dat3 (read (W13 m)) c
  | ⟨4, _⟩ => fun c => dat4 (read (W15 m)) c
  | ⟨5, _⟩ => fun c => dat5 (read (W17 m)) c
abbrev 𝒱₀ : Variants := Variants.none
/-- No core owes another anything: no level is assigned. -/
abbrev L : GSem nD τ sig → Finset Unit := fun _ => ∅
abbrev lv : GSem nD τ sig → Unit → ℕ := fun _ _ => 0

/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Cert.Whole.Rest

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call 0 as a segment. -/
def call0 : Pipeline.RegionSeg (pcfgs (F := F)) adm (pdats m) () defs₀ 𝒱₀ L lv 0 :=
  Cert.Whole.region (pcfgs (F := F)) adm (pdats m) defs₀ 𝒱₀ L lv 0 launch0.win.to₀ launch0.block_pos launch0.stage_whole rfl
    (fun c => (body_obligation0 (read (W9 m)) c).loose) (fun _ _ => rfl) (fun _ => rfl) (fun _ _ => rfl) (W9 m) (W10 m)
    (fun c => Pipeline.arrays_of_unscopedBufs (p := 0) (pcfgs (F := F)) adm (pdats m) launch0.win launch0.arr_whole c
      ((pdats m 0 c).share_full fun _ => rfl) (read (W9 m) c) (A_eq0 (read (W9 m)) c))
    (fun c => Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (read (W9 m) c) (read (W10 m) c) ((pdats m 0 c).arrAt · cfg0.N) (fun w => (W10_arr m c w).symm) (rest0 m c))

set_option backward.isDefEq.respectTransparency.types false in
/-- Call 1 as a segment. -/
def call1 : Pipeline.RegionSeg (pcfgs (F := F)) adm (pdats m) () defs₀ 𝒱₀ L lv 1 :=
  Cert.Whole.region (pcfgs (F := F)) adm (pdats m) defs₀ 𝒱₀ L lv 1 launch1.win.to₀ launch1.block_pos launch1.stage_whole rfl
    (fun c => (body_obligation1 (read (W11 m)) c).loose) (fun _ _ => rfl) (fun _ => rfl) (fun _ _ => rfl) (W11 m) (W12 m)
    (fun c => Pipeline.arrays_of_unscopedBufs (p := 1) (pcfgs (F := F)) adm (pdats m) launch1.win launch1.arr_whole c
      ((pdats m 1 c).share_full fun _ => rfl) (read (W11 m) c) (A_eq1 (read (W11 m)) c))
    (fun c => Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (read (W11 m) c) (read (W12 m) c) ((pdats m 1 c).arrAt · cfg1.N) (fun w => (W12_arr m c w).symm) (rest1 m c))

set_option backward.isDefEq.respectTransparency.types false in
/-- Call 2 as a segment. -/
def call2 : Pipeline.RegionSeg (pcfgs (F := F)) adm (pdats m) () defs₀ 𝒱₀ L lv 2 :=
  Cert.Whole.region (pcfgs (F := F)) adm (pdats m) defs₀ 𝒱₀ L lv 2 launch2.win.to₀ launch2.block_pos launch2.stage_whole rfl
    (fun c => (body_obligation2 (read (W12 m)) c).loose) (fun _ _ => rfl) (fun _ => rfl) (fun _ _ => rfl) (W12 m) (W13 m)
    (fun c => Pipeline.arrays_of_unscopedBufs (p := 2) (pcfgs (F := F)) adm (pdats m) launch2.win launch2.arr_whole c
      ((pdats m 2 c).share_full fun _ => rfl) (read (W12 m) c) (A_eq2 (read (W12 m)) c))
    (fun c => Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (read (W12 m) c) (read (W13 m) c) ((pdats m 2 c).arrAt · cfg2.N) (fun w => (W13_arr m c w).symm) (rest2 m c))

set_option backward.isDefEq.respectTransparency.types false in
/-- Call 3 as a segment. -/
def call3 : Pipeline.RegionSeg (pcfgs (F := F)) adm (pdats m) () defs₀ 𝒱₀ L lv 3 :=
  Cert.Whole.region (pcfgs (F := F)) adm (pdats m) defs₀ 𝒱₀ L lv 3 launch3.win.to₀ launch3.block_pos launch3.stage_whole rfl
    (fun c => (body_obligation3 (read (W13 m)) c).loose) (fun _ _ => rfl) (fun _ => rfl) (fun _ _ => rfl) (W13 m) (W14 m)
    (fun c => Pipeline.arrays_of_unscopedBufs (p := 3) (pcfgs (F := F)) adm (pdats m) launch3.win launch3.arr_whole c
      ((pdats m 3 c).share_full fun _ => rfl) (read (W13 m) c) (A_eq3 (read (W13 m)) c))
    (fun c => Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (read (W13 m) c) (read (W14 m) c) ((pdats m 3 c).arrAt · cfg3.N) (fun w => (W14_arr m c w).symm) (rest3 m c))

set_option backward.isDefEq.respectTransparency.types false in
/-- Call 4 as a segment. -/
def call4 : Pipeline.RegionSeg (pcfgs (F := F)) adm (pdats m) () defs₀ 𝒱₀ L lv 4 :=
  Cert.Whole.region (pcfgs (F := F)) adm (pdats m) defs₀ 𝒱₀ L lv 4 launch4.win.to₀ launch4.block_pos launch4.stage_whole rfl
    (fun c => (body_obligation4 (read (W15 m)) c).loose) (fun _ _ => rfl) (fun _ => rfl) (fun _ _ => rfl) (W15 m) (W16 m)
    (fun c => Pipeline.arrays_of_unscopedBufs (p := 4) (pcfgs (F := F)) adm (pdats m) launch4.win launch4.arr_whole c
      ((pdats m 4 c).share_full fun _ => rfl) (read (W15 m) c) (A_eq4 (read (W15 m)) c))
    (fun c => Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (read (W15 m) c) (read (W16 m) c) ((pdats m 4 c).arrAt · cfg4.N) (fun w => (W16_arr m c w).symm) (rest4 m c))

set_option backward.isDefEq.respectTransparency.types false in
/-- Call 5 as a segment: two of its input windows read one array, each holding a share of it. -/
def call5 : Pipeline.RegionSeg (pcfgs (F := F)) adm (pdats m) () defs₀ 𝒱₀ L lv 5 :=
  Cert.Whole.region (pcfgs (F := F)) adm (pdats m) defs₀ 𝒱₀ L lv 5 launch₀5.win launch₀5.block_pos launch₀5.stage_whole rfl
    (fun c => (body_obligation5 (read (W17 m)) c).loose) (fun _ _ => rfl) (fun _ => rfl) (fun _ _ => rfl) (W17 m) (W18 m)
    (fun c => Pipeline.arrays_of_unscopedBufs_shared (p := 5) (pcfgs (F := F)) adm (pdats m) launch₀5.win launch₀5.sharedIn
      launch₀5.arr_whole c (fun _ _ => rfl) (read (W17 m) c) (A_eq5 (read (W17 m)) c))
    (fun c => Pipeline.unscopedBufs_of_arrays_shared (p := 5) (pcfgs (F := F)) adm (Ix := Unit) (Name := ℕ) (U := UR sig nD τ) (Lvl := ℕ)
      launch₀5.win launch₀5.sharedIn launch₀5.arr_whole c (pdats m) (fun _ _ => rfl)
      (read (W17 m) c) (read (W18 m) c) ((pdats m 5 c).arrAt · cfg5.N) (fun w => (W18_arr m c w).symm) (rest5 m c))

/-- @main's segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .host (hseg hostOps0_7 hostOps0_7_sub hostOps0_7_fresh (W7 m)),
    .host (hseg hostOps0_8 hostOps0_8_sub hostOps0_8_fresh (W8 m)),
    .region (call0 m),
    .host (hseg hostOps1 hostOps1_sub hostOps1_fresh (W10 m)),
    .region (call1 m),
    .region (call2 m),
    .region (call3 m),
    .host (hseg hostOps4 hostOps4_sub hostOps4_fresh (W14 m)),
    .region (call4 m),
    .host (hseg hostOps5 hostOps5_sub hostOps5_fresh (W16 m)),
    .region (call5 m) ]
/-- @main is the run of the segments. -/
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

/-- The last thread state beside the core owing nothing. -/
abbrev Tₙ (c : Dev nD) : sProp 𝕄 := iprop(StableHlo.held (c : Thread nD τ) (Pipeline.ucRefs τ sig) (W18 m c) ∗ ∃ r, prngReg c r)

set_option backward.isDefEq.respectTransparency.types false in
/-- THE RUN: from any memory with zero counters every weakly fair execution of @main terminates, and every final state
    holds `W18` at every unscoped buffer and has every counter at zero. -/
theorem run : θ_run defs (onTc (τ := τ) (main (F := F))) ⟨m, fun _ => 0, ρ⟩ (fun r =>
      (∀ c : Dev nD, ∀ b ∈ Pipeline.ucRefs τ sig, r.2.mem (c, b) = W18 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := Cert.Whole.state (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show Cert.Whole.state (W18 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h hz => ⟨h, funext fun g => hz g (.inr (no_unscoped g.2))⟩)

/-- THE FRAME: the arguments end as launched and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c =>
    have k : ∀ a : Ref sig .tc, a ∈ argRefs → ¬ (Proc.devRef .tc a : DevRef τ sig).isScoped →
        r.2.mem ((c.tc : Thread nD τ).loc a) = m ((c.tc : Thread nD τ).loc a) :=
      fun a ha hu => (h.1 c _ (mem_uc a hu)).trans (W18_kept m c a ha)
    ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide)⟩, h.2⟩) (run m ρ)

end Cert.KernelIdeal.Whole

end
-- ==== Proof.Value.Formulas.lean ====
/- What each call of the kernel computes, as a formula over whole arrays of extended reals. Each definition gives one
   array element by element; the modules `Call0` to `Call5` prove that the calls leave these arrays. -/
module

public import proofs.«01_k».proof.Proof.Gen.KernelIdeal.Launch
public import Idealize.ShloMosaic.Lib.Pointwise

@[expose] public section

noncomputable section

namespace Cert.KernelIdeal.Value

open Idealize.ShloMosaic Cert.KernelIdeal

/-- An index of a matrix from its two coordinates. -/
theorem ext2 {n₀ n₁ : ℕ} {i : (⟨2, ![n₀, n₁]⟩ : Shape).Idx} {a : Fin n₀} {b : Fin n₁} (h₀ : (i 0).val = a.val)
    (h₁ : (i 1).val = b.val) : i = ix2 a b :=
  funext fun x => Fin.ext (match x with | 0 => h₀ | 1 => h₁)

/-- An index of an array of rank three from its three coordinates. -/
theorem ext3 {n₀ n₁ n₂ : ℕ} {i : (⟨3, ![n₀, n₁, n₂]⟩ : Shape).Idx} {a : Fin n₀} {b : Fin n₁} {c : Fin n₂}
    (h₀ : (i 0).val = a.val) (h₁ : (i 1).val = b.val) (h₂ : (i 2).val = c.val) : i = ix3 a b c :=
  funext fun x => Fin.ext (match x with | 0 => h₀ | 1 => h₁ | 2 => h₂)

/-- A projection: rows of `x` times the matrix `w`, plus the bias row `b`. -/
def proj (x : S8192x1024.Idx → EReal) (w : S1024x1024.Idx → EReal) (b : S1x1024.Idx → EReal) : S8192x1024.Idx → EReal :=
  fun i => (∑ e : Fin 1024, x (ix2 (i 0) e) * w (ix2 e (i 1))) + b (ix2 0 (i 1))

/-- The forward transform of every batch: the matrix `f` times the batch's array. -/
def forward (f : S2048x2048.Idx → EReal) (x : S4x2048x1024.Idx → EReal) : S4x2048x1024.Idx → EReal :=
  fun i => ∑ t : Fin 2048, f (ix2 (i 1) t) * x (ix3 (i 0) t (i 2))

/-- Row `k` of the upper half of an array of 2048 rows. -/
abbrev lo (k : Fin 1024) : Fin 2048 := ⟨k.val, by omega⟩
/-- Row `k` of the lower half. -/
abbrev hi (k : Fin 1024) : Fin 2048 := ⟨1024 + k.val, by omega⟩

/-- The real parts of one spectrum times the conjugate of the other, where the rows below 1024 hold the cosine sums and
    the others the sine sums. Row 0 of the sine half holds the cosine sum at frequency 1024, which has no part here. -/
def pointLo (q k : S4x2048x1024.Idx → EReal) (b : Fin 4) (r : Fin 1024) (d : Fin 1024) : EReal :=
  q (ix3 b (lo r) d) * k (ix3 b (lo r) d)
    + (if r.val = 0 then 0 else q (ix3 b (hi r) d) * k (ix3 b (hi r) d))

/-- The imaginary parts, row 0 holding the product at frequency 1024. -/
def pointHi (q k : S4x2048x1024.Idx → EReal) (b : Fin 4) (r : Fin 1024) (d : Fin 1024) : EReal :=
  if r.val = 0 then q (ix3 b (hi r) d) * k (ix3 b (hi r) d)
  else q (ix3 b (lo r) d) * k (ix3 b (hi r) d) - q (ix3 b (hi r) d) * k (ix3 b (lo r) d)

/-- The two halves, one above the other. -/
def point (q k : S4x2048x1024.Idx → EReal) : S4x2048x1024.Idx → EReal := fun i =>
  if h : (i 1).val < 1024 then pointLo q k (i 0) ⟨(i 1).val, h⟩ (i 2)
  else pointHi q k (i 0) ⟨(i 1).val - 1024, have h' : (i 1).val < 2048 := (i 1).isLt; by omega⟩ (i 2)

theorem point_lo (q k : S4x2048x1024.Idx → EReal) (b : Fin 4) (r : Fin 1024) (d : Fin 1024) :
    point q k (ix3 b (lo r) d) = pointLo q k b r d := dif_pos r.isLt

theorem point_hi (q k : S4x2048x1024.Idx → EReal) (b : Fin 4) (r : Fin 1024) (d : Fin 1024) :
    point q k (ix3 b (hi r) d) = pointHi q k b r d := by
  refine (dif_neg (by show ¬ 1024 + r.val < 1024; omega)).trans ?_
  exact congrArg (fun r => pointHi q k b r d) (Fin.ext (by show 1024 + r.val - 1024 = r.val; omega))

/-- A choice by whether a row number below 1024 is zero, the row number held as a word. -/
theorem select_row0 {α : Type} (r : ℕ) (hr : r < 1024) (a b : α) :
    Scalar.select (IntOp.cmpi .eq (BitVec.ofNat 32 r) 0#32) a b = if r = 0 then a else b := by
  by_cases h : r = 0
  · subst h; rfl
  · have h' : BitVec.ofNat 32 r ≠ 0#32 := fun e => h (by
      have := congrArg BitVec.toNat e
      simp only [BitVec.toNat_ofNat] at this
      omega)
    have h2 : (BitVec.ofNat 32 r == 0#32) = false := beq_eq_false_iff_ne.mpr h'
    simp [Scalar.select, IntOp.cmpi, h, h2]

/-- The inverse transform of every batch: the correlation at each lag. -/
def corr (g : S2048x2048.Idx → EReal) (p : S4x2048x1024.Idx → EReal) (b : Fin 4) (d : Fin 1024) (τ : Fin 2048) : EReal :=
  ∑ k : Fin 2048, g (ix2 τ k) * p (ix3 b k d)

/-- The greatest correlation over the lags from 1 on. -/
def lagMax (g : S2048x2048.Idx → EReal) (p : S4x2048x1024.Idx → EReal) (b : Fin 4) (d : Fin 1024) : EReal :=
  Finset.univ.sup fun τ : Fin 2048 => if τ.val = 0 then ⊥ else corr g p b d τ

/-- The output projection of the values, each channel taken from the row before where its shift exceeds one half. -/
def output (s : S4x1x1024.Idx → EReal) (v : S4x2048x1024.Idx → EReal) (w : S1024x1024.Idx → EReal) (b : S1x1024.Idx → EReal) :
    S4x2048x1024.Idx → EReal :=
  fun i => (∑ e : Fin 1024,
      (if Ideal.ofBits FTy.f32 0x3F000000#32 < s (ix3 (i 0) 0 e) then
        v (ix3 (i 0) ⟨((i 1).val + 2047) % 2048, Nat.mod_lt _ (by decide)⟩ e) else v (ix3 (i 0) (i 1) e)) * w (ix2 e (i 2)))
    + b (ix2 0 (i 2))

end Cert.KernelIdeal.Value
-- ==== Proof.Value.Words.lean ====
/- The float words that the two programs hold, read as extended reals. -/
module

public import Idealize.ShloMosaic.Lib.Pointwise

@[expose] public section

noncomputable section

namespace Cert.Math

open Idealize.ShloMosaic

theorem word_neg_inf : Ideal.ofBits .f32 0xFF800000#32 = ⊥ := by simp [Ideal.ofBits, Ideal.ieee]
theorem word_half : Ideal.ofBits .f32 0x3F000000#32 = ((1 / 2 : ℝ) : EReal) := by
  simp [Ideal.ofBits, Ideal.ieee, -EReal.coe_mul, -EReal.coe_neg]; norm_num
theorem word_neg_one : Ideal.ofBits .f32 0xBF800000#32 = ((-1 : ℝ) : EReal) := by
  simp [Ideal.ofBits, Ideal.ieee, -EReal.coe_mul, -EReal.coe_neg]; try norm_num
/-- 1/1024. -/
theorem word_step : Ideal.ofBits .f32 0x3A800000#32 = ((1 / 1024 : ℝ) : EReal) := by
  simp [Ideal.ofBits, Ideal.ieee, -EReal.coe_mul, -EReal.coe_neg]; norm_num
/-- −1/1024. -/
theorem word_neg_step : Ideal.ofBits .f32 0xBA800000#32 = ((-(1 / 1024) : ℝ) : EReal) := by
  simp [Ideal.ofBits, Ideal.ieee, -EReal.coe_mul, -EReal.coe_neg]; norm_num
/-- 1/2048. -/
theorem word_inv_len : Ideal.ofBits .f32 0x3A000000#32 = ((1 / 2048 : ℝ) : EReal) := by
  simp [Ideal.ofBits, Ideal.ieee, -EReal.coe_mul, -EReal.coe_neg]; norm_num
/-- 2048. -/
theorem word_len : Ideal.ofBits .f32 0x45000000#32 = ((2048 : ℝ) : EReal) := by
  simp [Ideal.ofBits, Ideal.ieee, -EReal.coe_mul, -EReal.coe_neg]; try norm_num

end Cert.Math
-- ==== Proof.Value.Trig.lean ====
/- The angles of the discrete Fourier transform of length 2048, and the integer remainder that reduces them. -/
module

public import Idealize.ShloMosaic.Lib.Pointwise
public import Idealize.ShloMosaic.Lib.Routing.Words
public import proofs.«01_k».proof.Proof.Value.Words
public import Mathlib.Analysis.SpecialFunctions.Trigonometric.Inverse

@[expose] public section

noncomputable section

namespace Cert.Math

open Idealize.ShloMosaic

/-- The angle of `n` steps of a circle cut in 2048. -/
def turn (n : ℕ) : ℝ := n * (Real.pi / 1024)

/-- An angle is its whole turns and the rest. -/
theorem turn_split (n : ℕ) : turn n = turn (n % 2048) + (n / 2048 : ℕ) * (2 * Real.pi) := by
  have h : (n : ℝ) = ((n % 2048 : ℕ) : ℝ) + 2048 * ((n / 2048 : ℕ) : ℝ) := by
    rw [← Nat.cast_ofNat (R := ℝ), ← Nat.cast_mul, ← Nat.cast_add, Nat.mod_add_div]
  unfold turn
  rw [h]
  ring

/-- The cosine does not see whole turns. -/
theorem cos_turn_mod (n : ℕ) : Real.cos (turn (n % 2048)) = Real.cos (turn n) := by
  rw [turn_split n, Real.cos_add_nat_mul_two_pi]

/-- The sine does not see whole turns. -/
theorem sin_turn_mod (n : ℕ) : Real.sin (turn (n % 2048)) = Real.sin (turn n) := by
  rw [turn_split n, Real.sin_add_nat_mul_two_pi]

/-- Half turns. -/
theorem turn_half (t : ℕ) : turn (1024 * t) = t * Real.pi := by
  unfold turn
  push_cast
  ring

/-- The cosine of `t` half turns is 1 or -1 by the parity of `t`. -/
theorem cos_turn_half (t : ℕ) : Real.cos (turn (1024 * t)) = 1 - 2 * ((t % 2 : ℕ) : ℝ) := by
  rw [turn_half, Real.cos_nat_mul_pi]
  rcases Nat.mod_two_eq_zero_or_one t with h | h
  · rw [h, Even.neg_one_pow (Nat.even_iff.2 h)]; norm_num
  · rw [h, Odd.neg_one_pow (Nat.odd_iff.2 h)]; norm_num

/-- The sine of half turns is 0. -/
theorem sin_turn_half (t : ℕ) : Real.sin (turn (1024 * t)) = 0 := by
  rw [turn_half, Real.sin_nat_mul_pi]

theorem turn_zero : turn 0 = 0 := by unfold turn; simp

/-- The angle step, arc cosine of -1 over 1024, is exactly `π / 1024`. -/
theorem step_eq : Ideal.acos (Ideal.ofBits FTy.f32 3212836864#32) * Ideal.ofBits FTy.f32 981467136#32 = ((Real.pi / 1024 : ℝ) : EReal) := by
  have h1 := word_neg_one
  have h2 := word_step
  rw [h1, h2, Ideal.acos_coe, if_pos (by norm_num), Real.arccos_neg_one, ← EReal.coe_mul]
  congr 1
  ring

/-- A natural number below `2 ^ 31`, as a word read signed. -/
theorem toInt_nat {n : ℕ} (h : n < 2 ^ 31) : (BitVec.ofNat 32 n).toInt = n := by
  have e : (BitVec.ofNat 32 n).toNat = n := by rw [BitVec.toNat_ofNat, Nat.mod_eq_of_lt (by omega)]
  rw [BitVec.toInt_eq_toNat_of_lt (by rw [e]; omega), e]

/-- The angle of a word of a natural number. -/
theorem angle_eq {n : ℕ} (h : n < 2 ^ 31) :
    (((BitVec.ofNat 32 n).toInt : ℝ) : EReal) * ((Real.pi / 1024 : ℝ) : EReal) = ((turn n : ℝ) : EReal) := by
  rw [toInt_nat h, ← EReal.coe_mul]
  rfl

/-- The remainder with the sign of the divisor, as the programs spell it: a divisor 0 is taken as 1, and a nonzero
    remainder whose sign is not the divisor's has the divisor added. -/
def modWord (x n : BitVec 32) : BitVec 32 :=
  Scalar.select
    (IntOp.andi
      (IntOp.cmpi .ne
        (IntOp.cmpi .slt (IntOp.remsi .host x (Scalar.select (IntOp.cmpi .eq n 0#32) (1#32) n)) 0#32)
        (IntOp.cmpi .slt (Scalar.select (IntOp.cmpi .eq n 0#32) (1#32) n) 0#32))
      (IntOp.cmpi .ne (IntOp.remsi .host x (Scalar.select (IntOp.cmpi .eq n 0#32) (1#32) n)) 0#32))
    (IntOp.addi (IntOp.remsi .host x (Scalar.select (IntOp.cmpi .eq n 0#32) (1#32) n)) (Scalar.select (IntOp.cmpi .eq n 0#32) (1#32) n))
    (IntOp.remsi .host x (Scalar.select (IntOp.cmpi .eq n 0#32) (1#32) n))

/-- A word of a natural number is not below 0. -/
theorem slt_zero_nat {n : ℕ} (h : n < 2 ^ 31) : IntOp.cmpi .slt (BitVec.ofNat 32 n) 0#32 = 0#1 := by
  have e : (BitVec.ofNat 32 n).slt 0#32 = false := by
    rw [BitVec.slt, toInt_nat h]
    simp
  simp [IntOp.cmpi, e]

/-- On words of natural numbers it is the remainder. -/
theorem modWord_nat {a b : ℕ} (ha : a < 2 ^ 31) (h0 : 0 < b) (hb : b < 2 ^ 31) :
    modWord (BitVec.ofNat 32 a) (BitVec.ofNat 32 b) = BitVec.ofNat 32 (a % b) := by
  have hn : (Scalar.select (IntOp.cmpi .eq (BitVec.ofNat 32 b) 0#32) (1#32) (BitVec.ofNat 32 b) : BitVec 32) = BitVec.ofNat 32 b := by
    have : ¬ (BitVec.ofNat 32 b = 0#32) := by
      intro h
      have := congrArg BitVec.toNat h
      rw [BitVec.toNat_ofNat, Nat.mod_eq_of_lt (by omega)] at this
      simp at this
      omega
    have e : (BitVec.ofNat 32 b == 0#32) = false := beq_eq_false_iff_ne.2 this
    simp [IntOp.cmpi, Scalar.select, e]
  have hr : a % b < 2 ^ 31 := lt_of_lt_of_le (Nat.mod_lt _ h0) hb.le
  unfold modWord
  rw [hn, Routing.remsi_word _ ha h0 hb, slt_zero_nat hr, slt_zero_nat hb]
  simp [IntOp.cmpi, IntOp.andi, Scalar.select]

end Cert.Math
-- ==== Proof.Value.Stretch0.lean ====
/- What each host stretch before the kernel's first call leaves in the buffers that build the two Fourier tables. -/
module

public import proofs.«01_k».proof.Proof.Whole.KernelIdeal.Run
public import proofs.«01_k».proof.Proof.Value.Formulas
public import proofs.«01_k».proof.Proof.Value.Trig
public import Idealize.ShloMosaic.Lib.StableHlo.ReadAt
public import Idealize.ShloMosaic.Lib.Routing.OpsSet

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole Cert.Math

/-- Writing one row at row 0 replaces row 0 and nothing else. -/
theorem row_set (x : S1024x2048.Idx → EReal) (u : S2048.Idx → EReal) (w : S1.Idx → BitVec 32) (hw : ∀ i, w i = 0#32) (f : Fin 1024) (t : Fin 2048) :
    Host.scatter scatter_S1024x2048_S1_S2048_0_0_0_0 (fun _ b => b) x w u (ix2 f t) = if f.val = 0 then u (ix1 t) else x (ix2 f t) := by
  have hit : ∀ k : S2048.Idx, scatter_S1024x2048_S1_S2048_0_0_0_0.resultIdx? k w = some (ix2 f t) ↔ f.val = 0 ∧ (k 0).val = t.val := by
    intro k
    rw [Routing.resultIdx?_eq_some]
    have s0 : scatter_S1024x2048_S1_S2048_0_0_0_0.start k w 0 = 0 := by
      unfold ScatterDims.start
      rw [dif_pos (by decide), hw]; rfl
    have s1 : scatter_S1024x2048_S1_S2048_0_0_0_0.start k w 1 = 0 := by
      unfold ScatterDims.start
      rw [dif_neg (by decide)]
    have w0 : scatter_S1024x2048_S1_S2048_0_0_0_0.window k 0 = 0 := by
      unfold ScatterDims.window
      rw [dif_neg (by decide)]
    have w1 : scatter_S1024x2048_S1_S2048_0_0_0_0.window k 1 = (k 0).val := by
      unfold ScatterDims.window
      rw [dif_pos (by decide)]; rfl
    constructor
    · intro h
      have h0 := h 0
      have h1 := h 1
      rw [s0, w0] at h0
      rw [s1, w1] at h1
      have e0 : ((ix2 f t : S1024x2048.Idx) 0).val = f.val := rfl
      have e1 : ((ix2 f t : S1024x2048.Idx) 1).val = t.val := rfl
      omega
    · rintro ⟨h0, h1⟩ a
      match a with
      | ⟨0, _⟩ => exact (congrArg₂ (fun (a : Int) (b : ℕ) => a + (b : Int)) s0 w0).trans (by show (0 : Int) + _ = (f.val : Int); omega)
      | ⟨1, _⟩ => exact (congrArg₂ (fun (a : Int) (b : ℕ) => a + (b : Int)) s1 w1).trans (by show (0 : Int) + _ = (t.val : Int); omega)
  by_cases h : f.val = 0
  · rw [if_pos h]
    refine Routing.scatter_set_hit _ x w u _ _ (fun k hk => congrArg u ?_) (ix1 t) ((hit _).2 ⟨h, rfl⟩)
    idx_vars k
    exact congrArg ix1 (Fin.ext ((hit _).1 hk).2)
  · rw [if_neg h]
    exact Routing.scatter_set_miss _ x w u _ fun k hk => h ((hit k).1 hk).1

/-- Writing one column at column 0 replaces column 0 and nothing else. -/
theorem col_set (x : S2048x1024.Idx → EReal) (u : S2048.Idx → EReal) (w : S1.Idx → BitVec 32) (hw : ∀ i, w i = 0#32) (t : Fin 2048) (f : Fin 1024) :
    Host.scatter scatter_S2048x1024_S1_S2048_0_1_1_0 (fun _ b => b) x w u (ix2 t f) = if f.val = 0 then u (ix1 t) else x (ix2 t f) := by
  have hit : ∀ k : S2048.Idx, scatter_S2048x1024_S1_S2048_0_1_1_0.resultIdx? k w = some (ix2 t f) ↔ f.val = 0 ∧ (k 0).val = t.val := by
    intro k
    rw [Routing.resultIdx?_eq_some]
    have s0 : scatter_S2048x1024_S1_S2048_0_1_1_0.start k w 0 = 0 := by
      unfold ScatterDims.start
      rw [dif_neg (by decide)]
    have s1 : scatter_S2048x1024_S1_S2048_0_1_1_0.start k w 1 = 0 := by
      unfold ScatterDims.start
      rw [dif_pos (by decide), hw]; rfl
    have w0 : scatter_S2048x1024_S1_S2048_0_1_1_0.window k 0 = (k 0).val := by
      unfold ScatterDims.window
      rw [dif_pos (by decide)]; rfl
    have w1 : scatter_S2048x1024_S1_S2048_0_1_1_0.window k 1 = 0 := by
      unfold ScatterDims.window
      rw [dif_neg (by decide)]
    constructor
    · intro h
      have h0 := h 0
      have h1 := h 1
      rw [s0, w0] at h0
      rw [s1, w1] at h1
      have e0 : ((ix2 t f : S2048x1024.Idx) 0).val = t.val := rfl
      have e1 : ((ix2 t f : S2048x1024.Idx) 1).val = f.val := rfl
      omega
    · rintro ⟨h0, h1⟩ a
      match a with
      | ⟨0, _⟩ => exact (congrArg₂ (fun (a : Int) (b : ℕ) => a + (b : Int)) s0 w0).trans (by show (0 : Int) + _ = (t.val : Int); omega)
      | ⟨1, _⟩ => exact (congrArg₂ (fun (a : Int) (b : ℕ) => a + (b : Int)) s1 w1).trans (by show (0 : Int) + _ = (f.val : Int); omega)
  by_cases h : f.val = 0
  · rw [if_pos h]
    refine Routing.scatter_set_hit _ x w u _ _ (fun k hk => congrArg u ?_) (ix1 t) ((hit _).2 ⟨h, rfl⟩)
    idx_vars k
    exact congrArg ix1 (Fin.ext ((hit _).1 hk).2)
  · rw [if_neg h]
    exact Routing.scatter_set_miss _ x w u _ fun k hk => h ((hit k).1 hk).1

variable (U : Valuation τ sig (Elt Ideal))

/-- What a buffer holds after a list of operations. -/
abbrev aft (ops : List (HloOp τ sig (Elt Ideal))) (r : Ref sig .tc) := StableHlo.after ops U (Proc.devRef .tc r)
/-- What a buffer holds before it. -/
abbrev bef (r : Ref sig .tc) := U (Proc.devRef .tc r)

theorem s0_8 (f : Fin 1024) (t : Fin 2048) :
    (aft U hostOps0 main_v8 : S1024x2048.Idx → BitVec 32) (ix2 f t) = BitVec.ofNat 32 f * BitVec.ofNat 32 t := by
  after_reads_at; rfl
theorem s0_c : (aft U hostOps0 main_c : S_.Idx → BitVec 32) ix0 = 2048#32 := by after_reads_at
theorem s0_0 (t : Fin 2048) : (aft U hostOps0 main_v0 : S2048.Idx → BitVec 32) (ix1 t) = BitVec.ofNat 32 t := by after_reads_at
theorem s0_1 (t : Fin 1024) : (aft U hostOps0 main_v1 : S1024.Idx → BitVec 32) (ix1 t) = BitVec.ofNat 32 t := by after_reads_at
theorem s0_3 : (aft U hostOps0 main_v3 : S_.Idx → EReal) ix0 = ((Real.pi / 1024 : ℝ) : EReal) := by
  after_reads_at; exact step_eq

theorem s1_9 (f : Fin 1024) (t : Fin 2048) :
    (aft U hostOps0_1 main_v9 : S1024x2048.Idx → BitVec 32) (ix2 f t) = modWord ((bef U main_v8 : S1024x2048.Idx → BitVec 32) (ix2 f t)) ((bef U main_c : S_.Idx → BitVec 32) ix0) := by
  after_reads_at; rfl
theorem s1_0 (t : Fin 2048) : (aft U hostOps0_1 main_v0 : S2048.Idx → BitVec 32) (ix1 t) = (bef U main_v0 : S2048.Idx → BitVec 32) (ix1 t) := by after_reads_at
theorem s1_1 (t : Fin 1024) : (aft U hostOps0_1 main_v1 : S1024.Idx → BitVec 32) (ix1 t) = (bef U main_v1 : S1024.Idx → BitVec 32) (ix1 t) := by after_reads_at
theorem s1_3 : (aft U hostOps0_1 main_v3 : S_.Idx → EReal) ix0 = (bef U main_v3 : S_.Idx → EReal) ix0 := by after_reads_at

/-- The angles of the forward table. -/
abbrev ang2 (f : Fin 1024) (t : Fin 2048) : EReal :=
  ((((bef U main_v9 : S1024x2048.Idx → BitVec 32) (ix2 f t)).toInt : ℝ) : EReal) * (bef U main_v3 : S_.Idx → EReal) ix0

theorem s2_13 (f : Fin 1024) (t : Fin 2048) : (aft U hostOps0_2 main_v13 : S1024x2048.Idx → EReal) (ix2 f t) = Ideal.cos (ang2 U f t) := by
  after_reads_at; rfl
theorem s2_14 (f : Fin 1024) (t : Fin 2048) : (aft U hostOps0_2 main_v14 : S1024x2048.Idx → EReal) (ix2 f t) = Ideal.sin (ang2 U f t) := by
  after_reads_at; rfl
theorem s2_c : (aft U hostOps0_2 main_c_1 : S_.Idx → BitVec 32) ix0 = 2#32 := by after_reads_at
theorem s2_0 (t : Fin 2048) : (aft U hostOps0_2 main_v0 : S2048.Idx → BitVec 32) (ix1 t) = (bef U main_v0 : S2048.Idx → BitVec 32) (ix1 t) := by after_reads_at
theorem s2_1 (t : Fin 1024) : (aft U hostOps0_2 main_v1 : S1024.Idx → BitVec 32) (ix1 t) = (bef U main_v1 : S1024.Idx → BitVec 32) (ix1 t) := by after_reads_at
theorem s2_3 : (aft U hostOps0_2 main_v3 : S_.Idx → EReal) ix0 = (bef U main_v3 : S_.Idx → EReal) ix0 := by after_reads_at

theorem s3_15 (t : Fin 2048) :
    (aft U hostOps0_3 main_v15 : S2048.Idx → BitVec 32) (ix1 t) = modWord ((bef U main_v0 : S2048.Idx → BitVec 32) (ix1 t)) ((bef U main_c_1 : S_.Idx → BitVec 32) ix0) := by
  after_reads_at; rfl
theorem s3_13 (f : Fin 1024) (t : Fin 2048) : (aft U hostOps0_3 main_v13 : S1024x2048.Idx → EReal) (ix2 f t) = (bef U main_v13 : S1024x2048.Idx → EReal) (ix2 f t) := by after_reads_at
theorem s3_14 (f : Fin 1024) (t : Fin 2048) : (aft U hostOps0_3 main_v14 : S1024x2048.Idx → EReal) (ix2 f t) = (bef U main_v14 : S1024x2048.Idx → EReal) (ix2 f t) := by after_reads_at
theorem s3_1 (t : Fin 1024) : (aft U hostOps0_3 main_v1 : S1024.Idx → BitVec 32) (ix1 t) = (bef U main_v1 : S1024.Idx → BitVec 32) (ix1 t) := by after_reads_at
theorem s3_3 : (aft U hostOps0_3 main_v3 : S_.Idx → EReal) ix0 = (bef U main_v3 : S_.Idx → EReal) ix0 := by after_reads_at

/-- The upper half of the forward table holds the cosines. -/
theorem s4_23_lo (f : Fin 1024) (t : Fin 2048) :
    (aft U hostOps0_4 main_v23 : S2048x2048.Idx → EReal) (ix2 (lo f) t) = (bef U main_v13 : S1024x2048.Idx → EReal) (ix2 f t) := by
  after_reads_at
/-- The lower half holds the sines, but in its first row the alternating signs. -/
theorem s4_23_hi (f : Fin 1024) (t : Fin 2048) :
    (aft U hostOps0_4 main_v23 : S2048x2048.Idx → EReal) (ix2 (hi f) t)
      = if f.val = 0 then (((1#32 - 2#32 * (bef U main_v15 : S2048.Idx → BitVec 32) (ix1 t)).toInt : ℝ) : EReal) else (bef U main_v14 : S1024x2048.Idx → EReal) (ix2 f t) := by
  after_reads_at
  refine (row_set _ _ _ (fun i => rfl) f t).trans ?_
  refine if_congr Iff.rfl ?_ ?_ <;> pointwise <;> rfl
theorem s4_29 (t : Fin 2048) (f : Fin 1024) :
    (aft U hostOps0_4 main_v29 : S2048x1024.Idx → BitVec 32) (ix2 t f) = BitVec.ofNat 32 t * (bef U main_v1 : S1024.Idx → BitVec 32) (ix1 f) := by
  after_reads_at; rfl
theorem s4_c : (aft U hostOps0_4 main_c_5 : S_.Idx → BitVec 32) ix0 = 2048#32 := by after_reads_at
theorem s4_24 (t : Fin 2048) : (aft U hostOps0_4 main_v24 : S2048.Idx → BitVec 32) (ix1 t) = BitVec.ofNat 32 t := by after_reads_at
theorem s4_3 : (aft U hostOps0_4 main_v3 : S_.Idx → EReal) ix0 = (bef U main_v3 : S_.Idx → EReal) ix0 := by after_reads_at

theorem s5_30 (t : Fin 2048) (f : Fin 1024) :
    (aft U hostOps0_5 main_v30 : S2048x1024.Idx → BitVec 32) (ix2 t f) = modWord ((bef U main_v29 : S2048x1024.Idx → BitVec 32) (ix2 t f)) ((bef U main_c_5 : S_.Idx → BitVec 32) ix0) := by
  after_reads_at; rfl
theorem s5_23 (f : Fin 2048) (t : Fin 2048) : (aft U hostOps0_5 main_v23 : S2048x2048.Idx → EReal) (ix2 f t) = (bef U main_v23 : S2048x2048.Idx → EReal) (ix2 f t) := by after_reads_at
theorem s5_24 (t : Fin 2048) : (aft U hostOps0_5 main_v24 : S2048.Idx → BitVec 32) (ix1 t) = (bef U main_v24 : S2048.Idx → BitVec 32) (ix1 t) := by after_reads_at
theorem s5_3 : (aft U hostOps0_5 main_v3 : S_.Idx → EReal) ix0 = (bef U main_v3 : S_.Idx → EReal) ix0 := by after_reads_at

/-- The angles of the inverse table. -/
abbrev ang6 (t : Fin 2048) (f : Fin 1024) : EReal :=
  ((((bef U main_v30 : S2048x1024.Idx → BitVec 32) (ix2 t f)).toInt : ℝ) : EReal) * (bef U main_v3 : S_.Idx → EReal) ix0

theorem s6_39 (t : Fin 2048) (f : Fin 1024) :
    (aft U hostOps0_6 main_v39 : S2048x1024.Idx → EReal) (ix2 t f)
      = if f.val = 0 then ((1 / 2048 : ℝ) : EReal) else ((1 / 1024 : ℝ) : EReal) * Ideal.cos (ang6 U t f) := by
  after_reads_at
  refine (col_set _ _ _ (fun i => rfl) t f).trans ?_
  rw [← word_inv_len, ← word_step]
  refine if_congr Iff.rfl ?_ ?_ <;> pointwise <;> rfl
theorem s6_42 (t : Fin 2048) (f : Fin 1024) :
    (aft U hostOps0_6 main_v42 : S2048x1024.Idx → EReal) (ix2 t f) = ((-(1 / 1024) : ℝ) : EReal) * Ideal.sin (ang6 U t f) := by
  after_reads_at
  rw [← word_neg_step]
  rfl
theorem s6_c : (aft U hostOps0_6 main_c_10 : S_.Idx → BitVec 32) ix0 = 2#32 := by after_reads_at
theorem s6_23 (f : Fin 2048) (t : Fin 2048) : (aft U hostOps0_6 main_v23 : S2048x2048.Idx → EReal) (ix2 f t) = (bef U main_v23 : S2048x2048.Idx → EReal) (ix2 f t) := by after_reads_at
theorem s6_24 (t : Fin 2048) : (aft U hostOps0_6 main_v24 : S2048.Idx → BitVec 32) (ix1 t) = (bef U main_v24 : S2048.Idx → BitVec 32) (ix1 t) := by after_reads_at

theorem s7_43 (t : Fin 2048) :
    (aft U hostOps0_7 main_v43 : S2048.Idx → BitVec 32) (ix1 t) = modWord ((bef U main_v24 : S2048.Idx → BitVec 32) (ix1 t)) ((bef U main_c_10 : S_.Idx → BitVec 32) ix0) := by
  after_reads_at; rfl
theorem s7_23 (f : Fin 2048) (t : Fin 2048) : (aft U hostOps0_7 main_v23 : S2048x2048.Idx → EReal) (ix2 f t) = (bef U main_v23 : S2048x2048.Idx → EReal) (ix2 f t) := by after_reads_at
theorem s7_39 (t : Fin 2048) (f : Fin 1024) : (aft U hostOps0_7 main_v39 : S2048x1024.Idx → EReal) (ix2 t f) = (bef U main_v39 : S2048x1024.Idx → EReal) (ix2 t f) := by after_reads_at
theorem s7_42 (t : Fin 2048) (f : Fin 1024) : (aft U hostOps0_7 main_v42 : S2048x1024.Idx → EReal) (ix2 t f) = (bef U main_v42 : S2048x1024.Idx → EReal) (ix2 t f) := by after_reads_at

theorem s8_23 (f : Fin 2048) (t : Fin 2048) : (aft U hostOps0_8 main_v23 : S2048x2048.Idx → EReal) (ix2 f t) = (bef U main_v23 : S2048x2048.Idx → EReal) (ix2 f t) := by after_reads_at
/-- The left half of the inverse table holds the scaled cosines. -/
theorem s8_53_lo (t : Fin 2048) (f : Fin 1024) :
    (aft U hostOps0_8 main_v53 : S2048x2048.Idx → EReal) (ix2 t (lo f)) = (bef U main_v39 : S2048x1024.Idx → EReal) (ix2 t f) := by
  after_reads_at
/-- The right half holds the scaled sines, but in its first column the alternating signs over 2048. -/
theorem s8_53_hi (t : Fin 2048) (f : Fin 1024) :
    (aft U hostOps0_8 main_v53 : S2048x2048.Idx → EReal) (ix2 t (hi f))
      = if f.val = 0 then Ideal.div (((1#32 - 2#32 * (bef U main_v43 : S2048.Idx → BitVec 32) (ix1 t)).toInt : ℝ) : EReal) ((2048 : ℝ) : EReal)
        else (bef U main_v42 : S2048x1024.Idx → EReal) (ix2 t f) := by
  after_reads_at
  refine (col_set _ _ _ (fun i => rfl) t f).trans ?_
  rw [← word_len]
  refine if_congr Iff.rfl ?_ ?_ <;> pointwise <;> rfl

end Cert.KernelIdeal.Value
-- ==== Proof.Value.Tables.lean ====
/- The two Fourier tables that the kernel builds before its first call, in closed form. -/
module

public import proofs.«01_k».proof.Proof.Value.Stretch0

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole Cert.Math

/-- The alternating signs, as words. -/
theorem signs (t : Fin 2048) :
    (((1#32 - 2#32 * modWord (BitVec.ofNat 32 t) 2#32).toInt : ℝ) : EReal) = ((Real.cos (turn (1024 * t)) : ℝ) : EReal) := by
  rw [show (2#32 : BitVec 32) = BitVec.ofNat 32 2 from rfl, modWord_nat (by have := t.isLt; omega) (by norm_num) (by norm_num), cos_turn_half]
  rcases Nat.mod_two_eq_zero_or_one t.val with h | h <;> rw [h]
  · rw [show (1#32 - 2#32 * BitVec.ofNat 32 0).toInt = 1 by decide]; norm_num
  · rw [show (1#32 - 2#32 * BitVec.ofNat 32 1).toInt = -1 by decide]; norm_num

/-- A product of two indices, reduced to one circle. -/
theorem reduced {a b : ℕ} (h : a * b < 2 ^ 31) :
    modWord (BitVec.ofNat 32 a * BitVec.ofNat 32 b) 2048#32 = BitVec.ofNat 32 (a * b % 2048) := by
  rw [← BitVec.ofNat_mul]
  exact modWord_nat h (by norm_num) (by norm_num)

variable (m : (l : Idealize.ShloMosaic.Loc nD τ sig) → Buf (Elt Ideal) l) (c : Dev nD)

theorem prod_lt (f : Fin 1024) (t : Fin 2048) : f.val * t.val < 2 ^ 31 :=
  lt_of_le_of_lt (Nat.mul_le_mul f.isLt.le t.isLt.le) (by norm_num)

/-- The angles of the forward table are turns. -/
theorem ang2_eq (f : Fin 1024) (t : Fin 2048) : ang2 (W2 m c) f t = ((turn (f.val * t.val % 2048) : ℝ) : EReal) := by
  have h9 : (bef (W2 m c) main_v9 : S1024x2048.Idx → BitVec 32) (ix2 f t) = BitVec.ofNat 32 (f.val * t.val % 2048) := by
    refine (s1_9 (W1 m c) f t).trans ?_
    refine (congrArg₂ modWord (s0_8 (W0 m c) f t) (s0_c (W0 m c))).trans ?_
    exact reduced (prod_lt f t)
  have h3 : (bef (W2 m c) main_v3 : S_.Idx → EReal) ix0 = ((Real.pi / 1024 : ℝ) : EReal) := (s1_3 (W1 m c)).trans (s0_3 (W0 m c))
  unfold ang2
  rw [h9, h3, angle_eq (lt_trans (Nat.mod_lt _ (by norm_num)) (by norm_num))]

/-- The upper half of the forward table: cosines. -/
theorem table1_lo (f : Fin 1024) (t : Fin 2048) :
    (W9 m c (Proc.devRef .tc main_v23) : S2048x2048.Idx → EReal) (ix2 (lo f) t) = ((Real.cos (turn (f.val * t.val)) : ℝ) : EReal) := by
  refine (s8_23 (W8 m c) _ t).trans ((s7_23 (W7 m c) _ t).trans ((s6_23 (W6 m c) _ t).trans ((s5_23 (W5 m c) _ t).trans ((s4_23_lo (W4 m c) f t).trans
    ((s3_13 (W3 m c) f t).trans ((s2_13 (W2 m c) f t).trans ?_))))))
  rw [ang2_eq, Ideal.cos_coe, cos_turn_mod]

/-- Its lower half: sines, but in the first row the cosines of the half turns. -/
theorem table1_hi (f : Fin 1024) (t : Fin 2048) :
    (W9 m c (Proc.devRef .tc main_v23) : S2048x2048.Idx → EReal) (ix2 (hi f) t)
      = if f.val = 0 then ((Real.cos (turn (1024 * t.val)) : ℝ) : EReal) else ((Real.sin (turn (f.val * t.val)) : ℝ) : EReal) := by
  refine (s8_23 (W8 m c) _ t).trans ((s7_23 (W7 m c) _ t).trans ((s6_23 (W6 m c) _ t).trans ((s5_23 (W5 m c) _ t).trans ((s4_23_hi (W4 m c) f t).trans ?_))))
  refine if_congr Iff.rfl ?_ ?_
  · have h : (bef (W4 m c) main_v15 : S2048.Idx → BitVec 32) (ix1 t) = modWord (BitVec.ofNat 32 t) 2#32 :=
      (s3_15 (W3 m c) t).trans (congrArg₂ modWord ((s2_0 (W2 m c) t).trans ((s1_0 (W1 m c) t).trans (s0_0 (W0 m c) t))) (s2_c (W2 m c)))
    rw [h, signs]
  · refine (s3_14 (W3 m c) f t).trans ((s2_14 (W2 m c) f t).trans ?_)
    rw [ang2_eq, Ideal.sin_coe, sin_turn_mod]

/-- The angles of the inverse table are turns. -/
theorem ang6_eq (t : Fin 2048) (f : Fin 1024) : ang6 (W6 m c) t f = ((turn (t.val * f.val % 2048) : ℝ) : EReal) := by
  have h1 : (bef (W4 m c) main_v1 : S1024.Idx → BitVec 32) (ix1 f) = BitVec.ofNat 32 f :=
    (s3_1 (W3 m c) f).trans ((s2_1 (W2 m c) f).trans ((s1_1 (W1 m c) f).trans (s0_1 (W0 m c) f)))
  have h30 : (bef (W6 m c) main_v30 : S2048x1024.Idx → BitVec 32) (ix2 t f) = BitVec.ofNat 32 (t.val * f.val % 2048) := by
    refine (s5_30 (W5 m c) t f).trans ?_
    refine (congrArg₂ modWord ((s4_29 (W4 m c) t f).trans (congrArg (BitVec.ofNat 32 t.val * ·) h1)) (s4_c (W4 m c))).trans ?_
    exact reduced (by rw [Nat.mul_comm]; exact prod_lt f t)
  have h3 : (bef (W6 m c) main_v3 : S_.Idx → EReal) ix0 = ((Real.pi / 1024 : ℝ) : EReal) :=
    (s5_3 (W5 m c)).trans ((s4_3 (W4 m c)).trans ((s3_3 (W3 m c)).trans ((s2_3 (W2 m c)).trans ((s1_3 (W1 m c)).trans (s0_3 (W0 m c))))))
  unfold ang6
  rw [h30, h3, angle_eq (lt_trans (Nat.mod_lt _ (by norm_num)) (by norm_num))]

/-- The left half of the inverse table: scaled cosines. -/
theorem table2_lo (t : Fin 2048) (f : Fin 1024) :
    (W9 m c (Proc.devRef .tc main_v53) : S2048x2048.Idx → EReal) (ix2 t (lo f))
      = if f.val = 0 then ((1 / 2048 : ℝ) : EReal) else ((1 / 1024 * Real.cos (turn (t.val * f.val)) : ℝ) : EReal) := by
  refine (s8_53_lo (W8 m c) t f).trans ((s7_39 (W7 m c) t f).trans ((s6_39 (W6 m c) t f).trans ?_))
  refine if_congr Iff.rfl rfl ?_
  rw [ang6_eq, Ideal.cos_coe, cos_turn_mod, EReal.coe_mul]

/-- Its right half: scaled sines, but in the first column the cosines of the half turns over 2048. -/
theorem table2_hi (t : Fin 2048) (f : Fin 1024) :
    (W9 m c (Proc.devRef .tc main_v53) : S2048x2048.Idx → EReal) (ix2 t (hi f))
      = if f.val = 0 then ((1 / 2048 * Real.cos (turn (1024 * t.val)) : ℝ) : EReal) else ((-(1 / 1024) * Real.sin (turn (t.val * f.val)) : ℝ) : EReal) := by
  refine (s8_53_hi (W8 m c) t f).trans ?_
  refine if_congr Iff.rfl ?_ ?_
  · have h : (bef (W8 m c) main_v43 : S2048.Idx → BitVec 32) (ix1 t) = modWord (BitVec.ofNat 32 t) 2#32 :=
      (s7_43 (W7 m c) t).trans (congrArg₂ modWord ((s6_24 (W6 m c) t).trans ((s5_24 (W5 m c) t).trans (s4_24 (W4 m c) t))) (s6_c (W6 m c)))
    rw [h, signs, Ideal.div, if_neg (by norm_num), ← EReal.coe_inv, ← EReal.coe_mul]
    congr 1
    ring
  · refine (s7_42 (W7 m c) t f).trans ((s6_42 (W6 m c) t f).trans ?_)
    rw [ang6_eq, Ideal.sin_coe, sin_turn_mod, ← EReal.coe_mul]

end Cert.KernelIdeal.Value
-- ==== Proof.Value.Spec.lean ====
/- The mathematics that both programs compute, written once, entry by entry. -/
module

public import proofs.«01_k».proof.Proof.Value.Trig
public import Idealize.ShloMosaic.Lib.SortFacts

@[expose] public section

set_option maxRecDepth 4096

noncomputable section

namespace Cert.Math

open Idealize.ShloMosaic

/-- One entry of an affine projection of a row. -/
def affine (x : Fin 1024 → EReal) (w : Fin 1024 → EReal) (b : EReal) : EReal := (∑ e, x e * w e) + b

/-- The cosine sum of a series at frequency `f`. -/
def cosSum (x : Fin 2048 → EReal) (f : ℕ) : EReal := ∑ t : Fin 2048, x t * ((Real.cos (turn (f * t.val)) : ℝ) : EReal)
/-- The sine sum of a series at frequency `f`. -/
def sinSum (x : Fin 2048 → EReal) (f : ℕ) : EReal := ∑ t : Fin 2048, x t * ((Real.sin (turn (f * t.val)) : ℝ) : EReal)

/-- The real part of the cross spectrum. -/
def crossRe (q k : Fin 2048 → EReal) (f : ℕ) : EReal := cosSum q f * cosSum k f + -sinSum q f * -sinSum k f
/-- The imaginary part of the cross spectrum. -/
def crossIm (q k : Fin 2048 → EReal) (f : ℕ) : EReal := -sinSum q f * cosSum k f - cosSum q f * -sinSum k f

/-- A frequency's weight in the inverse transform. -/
def weight (f : ℕ) : ℝ := if f = 0 ∨ f = 1024 then 1 / 2048 else 1 / 1024

/-- The correlation of two series at lag `τ`: the inverse transform of the cross spectrum. -/
def crossCorr (q k : Fin 2048 → EReal) (τ : ℕ) : EReal :=
  (∑ f : Fin 1025, crossRe q k f.val * ((weight f.val * Real.cos (turn (τ * f.val)) : ℝ) : EReal))
    + ∑ f : Fin 1025, crossIm q k f.val * ((-(weight f.val * Real.sin (turn (τ * f.val))) : ℝ) : EReal)

/-- The greatest correlation over the lags from 1. -/
def bestCorr (q k : Fin 2048 → EReal) : EReal := Finset.univ.sup fun l : Fin 2047 => crossCorr q k (1 + l.val)

/-- The greatest channel, as both softmaxes take it. -/
def peak (a : Fin 64 → EReal) : EReal :=
  max (Ideal.ofBits FTy.f32 4286578688#32) (Finset.fold max (Ideal.ofBits FTy.f32 4286578688#32) (fun x => a x) Finset.univ)

/-- The softmax over the channels of a head, cut to a whole number. -/
def shiftWord (a : Fin 64 → EReal) (e : Fin 64) : BitVec 32 :=
  Ideal.fptosi 32 (Ideal.div (Ideal.exp (a e - peak a)) (∑ x, Ideal.exp (a x - peak a)))

/-- No channel is above the peak. -/
theorem le_peak (a : Fin 64 → EReal) (e : Fin 64) : a e ≤ peak a :=
  le_max_of_le_right (Finset.le_fold_max (a e) |>.2 (Or.inr ⟨e, Finset.mem_univ e, le_rfl⟩))

/-- Each channel's exponential is a nonnegative real, whatever the channels are. -/
theorem exp_real (a : Fin 64 → EReal) (e : Fin 64) : ∃ r : ℝ, 0 ≤ r ∧ Ideal.exp (a e - peak a) = (r : EReal) := by
  have h := le_peak a e
  generalize peak a = M at h
  generalize a e = x at h
  induction M using EReal.rec with
  | bot => exact ⟨0, le_rfl, by rw [le_bot_iff.1 h]; rfl⟩
  | top =>
    refine ⟨0, le_rfl, ?_⟩
    rw [sub_eq_add_neg, EReal.neg_top, EReal.add_bot]; rfl
  | coe M =>
    induction x using EReal.rec with
    | bot => exact ⟨0, le_rfl, by rw [sub_eq_add_neg, EReal.bot_add]; rfl⟩
    | top => exact absurd h (by simp)
    | coe x => exact ⟨Real.exp (x - M), (Real.exp_pos _).le, by rw [← EReal.coe_sub]; rfl⟩

/-- The whole number is 0, 1, or the least word (where every exponential of the head is 0). -/
theorem shiftWord_cases (a : Fin 64 → EReal) (e : Fin 64) : shiftWord a e = 0#32 ∨ shiftWord a e = 1#32 ∨ shiftWord a e = 0x80000000#32 := by
  choose r h0 hr using exp_real a
  unfold shiftWord
  simp only [hr]
  have hs : (∑ x : Fin 64, (r x : EReal)) = ((∑ x : Fin 64, r x : ℝ) : EReal) := by
    induction (Finset.univ : Finset (Fin 64)) using Finset.induction_on with
    | empty => simp
    | insert x s hx ih => rw [Finset.sum_insert hx, Finset.sum_insert hx, ih, EReal.coe_add]
  rw [hs]
  have hle : r e ≤ ∑ x : Fin 64, r x := Finset.single_le_sum (fun x _ => h0 x) (Finset.mem_univ e)
  have hS : 0 ≤ ∑ x : Fin 64, r x := Finset.sum_nonneg fun x _ => h0 x
  generalize (∑ x : Fin 64, r x) = S at hle hS
  rcases hS.eq_or_lt with h | h
  · right; right
    have he : r e = 0 := le_antisymm (h ▸ hle) (h0 e)
    rw [← h, he, EReal.coe_zero, Ideal.div, if_pos rfl, if_neg (lt_irrefl _)]
    decide
  · have hne : ((S : ℝ) : EReal) ≠ 0 := by rw [← EReal.coe_zero]; exact fun q => h.ne' (EReal.coe_injective q)
    rw [Ideal.div, if_neg hne, ← EReal.coe_inv, ← EReal.coe_mul, ← div_eq_mul_inv]
    have h1 : 0 ≤ r e / S := div_nonneg (h0 e) h.le
    have h2 : r e / S ≤ 1 := div_le_one_of_le₀ hle h.le
    generalize r e / S = x at h1 h2
    have hx : Ideal.fptosi 32 ((x : ℝ) : EReal) = BitVec.ofInt 32 (max (-(2 ^ 31 : ℕ)) (min ((2 ^ 31 : ℕ) - 1) ⌊x⌋)) := by
      show BitVec.ofInt 32 (max _ (min _ (if 0 ≤ x then ⌊x⌋ else ⌈x⌉))) = _
      rw [if_pos h1]
    rw [hx]
    have f0 : 0 ≤ ⌊x⌋ := Int.floor_nonneg.2 h1
    have f1 : ⌊x⌋ ≤ 1 := by
      have := (Int.floor_le x).trans h2
      exact_mod_cast this
    have : ⌊x⌋ = 0 ∨ ⌊x⌋ = 1 := by omega
    rcases this with q | q
    · left; rw [q]; decide
    · right; left; rw [q]; decide

/-- The slot a channel reads: the slot before its own when its shift is 1, else its own. -/
def slot (a : Fin 64 → EReal) (e : Fin 64) (t : Fin 2048) : Fin 2048 :=
  if shiftWord a e = 1#32 then ⟨(t.val + 2047) % 2048, Nat.mod_lt _ (by norm_num)⟩ else t

/-- Comparing the shift, as a float, with one half tells whether it is 1. -/
theorem half_lt_shift (a : Fin 64 → EReal) (e : Fin 64) :
    Ideal.ofBits FTy.f32 0x3F000000#32 < (((shiftWord a e).toInt : ℝ) : EReal) ↔ shiftWord a e = 1#32 := by
  rw [word_half, EReal.coe_lt_coe_iff]
  rcases shiftWord_cases a e with h | h | h <;> rw [h]
  · rw [show (0#32 : BitVec 32).toInt = 0 by decide]; norm_num
  · rw [show (1#32 : BitVec 32).toInt = 1 by decide]; norm_num
  · rw [show (0x80000000#32 : BitVec 32).toInt = -2147483648 by decide]; exact iff_of_false (by norm_num) (by decide)

/-- The position less the shift, reduced to the length, is the slot. -/
theorem slot_word (a : Fin 64 → EReal) (e : Fin 64) (t : Fin 2048) :
    modWord (IntOp.subi (BitVec.ofNat 32 t.val) (shiftWord a e)) 2048#32 = BitVec.ofNat 32 (slot a e t).val := by
  have k0 : ∀ t : Fin 2048, modWord (IntOp.subi (BitVec.ofNat 32 t.val) 0#32) 2048#32 = BitVec.ofNat 32 t.val := by decide +kernel
  have k1 : ∀ t : Fin 2048, modWord (IntOp.subi (BitVec.ofNat 32 t.val) 1#32) 2048#32 = BitVec.ofNat 32 ((t.val + 2047) % 2048) := by decide +kernel
  have k2 : ∀ t : Fin 2048, modWord (IntOp.subi (BitVec.ofNat 32 t.val) 0x80000000#32) 2048#32 = BitVec.ofNat 32 t.val := by decide +kernel
  unfold slot
  rcases shiftWord_cases a e with h | h | h <;> rw [h]
  · rw [if_neg (by decide)]; exact k0 t
  · rw [if_pos rfl]; exact k1 t
  · rw [if_neg (by decide)]; exact k2 t

/-- Channel `64 h + e` of the model, from head `h` and channel `e` of it. -/
abbrev chan (h : Fin 16) (e : Fin 64) : Fin 1024 := ⟨h.val * 64 + e.val, by have := h.isLt; have := e.isLt; omega⟩
/-- The head of a channel, and its place in the head. -/
abbrev headOf (d : Fin 1024) : Fin 16 := ⟨d.val / 64, by have := d.isLt; omega⟩
abbrev inHead (d : Fin 1024) : Fin 64 := ⟨d.val % 64, Nat.mod_lt _ (by norm_num)⟩

/-- What the softmax reads: for each channel of a head the greatest correlation of the two series of that channel. -/
def best (q k : Fin 4 → Fin 2048 → Fin 1024 → EReal) (n : Fin 4) (h : Fin 16) (e : Fin 64) : EReal :=
  bestCorr (fun t => q n t (chan h e)) (fun t => k n t (chan h e))

/-- The attention's result: the output projection of the values, each channel taken from its slot. -/
def outcome (q k v : Fin 4 → Fin 2048 → Fin 1024 → EReal) (w : Fin 1024 → Fin 1024 → EReal) (b : Fin 1024 → EReal)
    (n : Fin 4) (t : Fin 2048) (d : Fin 1024) : EReal :=
  affine (fun e => v n (slot (best q k n (headOf e)) (inHead e) t) e) (w d) (b d)

end Cert.Math
-- ==== Proof.Value.Stretch1.lean ====
/- What the kernel's host stretches leave in the buffers that carry the data: reshapes, transposes, and the softmax
   between the last two calls. -/
module

public import proofs.«01_k».proof.Proof.Value.Stretch0
public import proofs.«01_k».proof.Proof.Value.Spec

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole Cert.Math

variable (U : Valuation τ sig (Elt Ideal))

/-- Row `2048 n + t` of the flattened batch. -/
abbrev flat (n : Fin 4) (t : Fin 2048) : Fin 8192 := ⟨n.val * 2048 + t.val, by have := n.isLt; have := t.isLt; omega⟩

/-- The batch and the row of a flattened row. -/
theorem unflat (n : Fin 4) (t : Fin 2048) (e : Fin 1024) (h₀ : (n.val * 2048 + t.val) / 2048 < 4) (h₁ : (n.val * 2048 + t.val) % 2048 < 2048) :
    (ix3 ⟨(n.val * 2048 + t.val) / 2048, h₀⟩ ⟨(n.val * 2048 + t.val) % 2048, h₁⟩ e : S4x2048x1024.Idx) = ix3 n t e := by
  have ht := t.isLt
  refine ext3 ?_ ?_ rfl
  · show (n.val * 2048 + t.val) / 2048 = n.val; omega
  · show (n.val * 2048 + t.val) % 2048 = t.val; omega

theorem s8_54 (n : Fin 4) (t : Fin 2048) (e : Fin 1024) :
    (aft U hostOps0_8 main_v54 : S8192x1024.Idx → EReal) (ix2 (flat n t) e) = (bef U main_arg0 : S4x2048x1024.Idx → EReal) (ix3 n t e) := by
  after_reads_at
  exact congrArg (bef U main_arg0 : S4x2048x1024.Idx → EReal) (unflat n t e _ _)
theorem s8_55 (n : Fin 4) (t : Fin 2048) (e : Fin 1024) :
    (aft U hostOps0_8 main_v55 : S8192x1024.Idx → EReal) (ix2 (flat n t) e) = (bef U main_arg1 : S4x2048x1024.Idx → EReal) (ix3 n t e) := by
  after_reads_at
  exact congrArg (bef U main_arg1 : S4x2048x1024.Idx → EReal) (unflat n t e _ _)
theorem s8_56 (n : Fin 4) (t : Fin 2048) (e : Fin 1024) :
    (aft U hostOps0_8 main_v56 : S8192x1024.Idx → EReal) (ix2 (flat n t) e) = (bef U main_arg2 : S4x2048x1024.Idx → EReal) (ix3 n t e) := by
  after_reads_at
  exact congrArg (bef U main_arg2 : S4x2048x1024.Idx → EReal) (unflat n t e _ _)
theorem s8_57 (e d : Fin 1024) : (aft U hostOps0_8 main_v57 : S1024x1024.Idx → EReal) (ix2 e d) = (bef U main_arg3 : S1024x1024.Idx → EReal) (ix2 d e) := by after_reads_at
theorem s8_58 (e d : Fin 1024) : (aft U hostOps0_8 main_v58 : S1024x1024.Idx → EReal) (ix2 e d) = (bef U main_arg5 : S1024x1024.Idx → EReal) (ix2 d e) := by after_reads_at
theorem s8_59 (e d : Fin 1024) : (aft U hostOps0_8 main_v59 : S1024x1024.Idx → EReal) (ix2 e d) = (bef U main_arg7 : S1024x1024.Idx → EReal) (ix2 d e) := by after_reads_at
theorem s8_60 (d : Fin 1024) : (aft U hostOps0_8 main_v60 : S1x1024.Idx → EReal) (ix2 0 d) = (bef U main_arg4 : S1024.Idx → EReal) (ix1 d) := by after_reads_at
theorem s8_61 (d : Fin 1024) : (aft U hostOps0_8 main_v61 : S1x1024.Idx → EReal) (ix2 0 d) = (bef U main_arg6 : S1024.Idx → EReal) (ix1 d) := by after_reads_at
theorem s8_62 (d : Fin 1024) : (aft U hostOps0_8 main_v62 : S1x1024.Idx → EReal) (ix2 0 d) = (bef U main_arg8 : S1024.Idx → EReal) (ix1 d) := by after_reads_at

theorem h1_64 (n : Fin 4) (t : Fin 2048) (d : Fin 1024) :
    (aft U hostOps1 main_v64 : S4x2048x1024.Idx → EReal) (ix3 n t d) = (bef U main_v63_0 : S8192x1024.Idx → EReal) (ix2 (flat n t) d) := by after_reads_at
theorem h1_65 (n : Fin 4) (t : Fin 2048) (d : Fin 1024) :
    (aft U hostOps1 main_v65 : S4x2048x1024.Idx → EReal) (ix3 n t d) = (bef U main_v63_1 : S8192x1024.Idx → EReal) (ix2 (flat n t) d) := by after_reads_at
theorem h1_66 (n : Fin 4) (t : Fin 2048) (d : Fin 1024) :
    (aft U hostOps1 main_v66 : S4x2048x1024.Idx → EReal) (ix3 n t d) = (bef U main_v63_2 : S8192x1024.Idx → EReal) (ix2 (flat n t) d) := by after_reads_at
theorem h1_23 (i j : Fin 2048) : (aft U hostOps1 main_v23 : S2048x2048.Idx → EReal) (ix2 i j) = (bef U main_v23 : S2048x2048.Idx → EReal) (ix2 i j) := by after_reads_at
theorem h1_53 (i j : Fin 2048) : (aft U hostOps1 main_v53 : S2048x2048.Idx → EReal) (ix2 i j) = (bef U main_v53 : S2048x2048.Idx → EReal) (ix2 i j) := by after_reads_at

theorem h4_73 (n : Fin 4) (h : Fin 16) (e : Fin 64) (l : Fin 128) :
    (aft U hostOps4 main_v73 : S4x16x64x128.Idx → EReal) (ix4 n h e l) = (bef U main_v69 : S4x8x1024.Idx → EReal) (ix3 n 0 (chan h e)) := by after_reads_at
theorem h4_66 (n : Fin 4) (t : Fin 2048) (d : Fin 1024) :
    (aft U hostOps4 main_v66 : S4x2048x1024.Idx → EReal) (ix3 n t d) = (bef U main_v66 : S4x2048x1024.Idx → EReal) (ix3 n t d) := by after_reads_at

/-- The shifts, as floats, are the softmax of the first kept lag cut to whole numbers. -/
theorem h5_92 (n : Fin 4) (d : Fin 1024) :
    (aft U hostOps5 main_v92 : S4x1x1024.Idx → EReal) (ix3 n 0 d)
      = (((shiftWord (fun x => (bef U main_v74 : S4x16x64x2047.Idx → EReal) (ix4 n (headOf d) x 0)) (inHead d)).toInt : ℝ) : EReal) := by
  after_reads_at; rfl
theorem h5_66 (n : Fin 4) (t : Fin 2048) (d : Fin 1024) :
    (aft U hostOps5 main_v66 : S4x2048x1024.Idx → EReal) (ix3 n t d) = (bef U main_v66 : S4x2048x1024.Idx → EReal) (ix3 n t d) := by after_reads_at
theorem h5_93 (e d : Fin 1024) : (aft U hostOps5 main_v93 : S1024x1024.Idx → EReal) (ix2 e d) = (bef U main_arg9 : S1024x1024.Idx → EReal) (ix2 d e) := by after_reads_at
theorem h5_94 (d : Fin 1024) : (aft U hostOps5 main_v94 : S1x1024.Idx → EReal) (ix2 0 d) = (bef U main_arg10 : S1024.Idx → EReal) (ix1 d) := by after_reads_at

end Cert.KernelIdeal.Value
-- ==== Proof.Value.Packed.lean ====
/- The kernel's packed transform is the discrete Fourier transform: 1024 cosine rows, then the row of the highest
   frequency and 1023 sine rows, against the 1025 real and 1025 imaginary parts. -/
module

public import proofs.«01_k».proof.Proof.Value.Spec
public import proofs.«01_k».proof.Proof.Value.Formulas

@[expose] public section

set_option maxRecDepth 4096

noncomputable section

namespace Cert.Math

open Idealize.ShloMosaic Cert.KernelIdeal Cert.KernelIdeal.Value

/-- The sine sum at frequency 0 vanishes. -/
theorem sinSum_zero (x : Fin 2048 → EReal) : sinSum x 0 = 0 := by
  unfold sinSum
  refine Finset.sum_eq_zero fun t _ => ?_
  rw [Nat.zero_mul, turn_zero, Real.sin_zero, EReal.coe_zero, mul_zero]

/-- The sine sum at the highest frequency vanishes. -/
theorem sinSum_half (x : Fin 2048 → EReal) : sinSum x 1024 = 0 := by
  unfold sinSum
  refine Finset.sum_eq_zero fun t _ => ?_
  rw [sin_turn_half, EReal.coe_zero, mul_zero]

theorem crossIm_of_sin (q k : Fin 2048 → EReal) (f : ℕ) (hq : sinSum q f = 0) (hk : sinSum k f = 0) : crossIm q k f = 0 := by
  unfold crossIm
  rw [hq, hk]
  simp

theorem crossRe_of_sin (q k : Fin 2048 → EReal) (f : ℕ) (hq : sinSum q f = 0) (hk : sinSum k f = 0) : crossRe q k f = cosSum q f * cosSum k f := by
  unfold crossRe
  rw [hq, hk]
  simp

/-- A sum over the 2048 packed rows is one over the first half and one over the second. -/
theorem sum_halves (g : Fin 2048 → EReal) : ∑ k, g k = (∑ k : Fin 1024, g (lo k)) + ∑ k : Fin 1024, g (hi k) :=
  Fin.sum_univ_add (a := 1024) (b := 1024) g

/-- The inverse transform of a packed product is the correlation: `g` is the row of the inverse table for lag `τ`,
    `p` the packed product of the spectra of `q` and `k`. -/
theorem packed_corr (q k : Fin 2048 → EReal) (τ : ℕ) (g p : Fin 2048 → EReal)
    (hglo : ∀ f : Fin 1024, g (lo f) = if f.val = 0 then ((1 / 2048 : ℝ) : EReal) else ((1 / 1024 * Real.cos (turn (τ * f.val)) : ℝ) : EReal))
    (hghi : ∀ f : Fin 1024, g (hi f) = if f.val = 0 then ((1 / 2048 * Real.cos (turn (1024 * τ)) : ℝ) : EReal)
      else ((-(1 / 1024) * Real.sin (turn (τ * f.val)) : ℝ) : EReal))
    (hplo : ∀ f : Fin 1024, p (lo f) = cosSum q f.val * cosSum k f.val + if f.val = 0 then 0 else sinSum q f.val * sinSum k f.val)
    (hphi : ∀ f : Fin 1024, p (hi f) = if f.val = 0 then cosSum q 1024 * cosSum k 1024
      else cosSum q f.val * sinSum k f.val - sinSum q f.val * cosSum k f.val) :
    ∑ j, g j * p j = crossCorr q k τ := by
  have hlo : ∀ f : Fin 1024, g (lo f) * p (lo f) = crossRe q k f.val * ((weight f.val * Real.cos (turn (τ * f.val)) : ℝ) : EReal) := by
    intro f
    rw [hglo, hplo, mul_comm]
    by_cases h : f.val = 0
    · rw [if_pos h, if_pos h, h, crossRe_of_sin _ _ _ (sinSum_zero q) (sinSum_zero k), Nat.mul_zero, turn_zero, Real.cos_zero, mul_one, add_zero]
      unfold weight
      rw [if_pos (Or.inl rfl)]
    · have hw : weight f.val = 1 / 1024 := if_neg (by have := f.isLt; omega)
      rw [if_neg h, if_neg h, hw, crossRe, neg_mul_neg]
  have hhi : ∀ f : Fin 1024, f.val ≠ 0 → g (hi f) * p (hi f) = crossIm q k f.val * ((-(weight f.val * Real.sin (turn (τ * f.val))) : ℝ) : EReal) := by
    intro f h
    have hw : weight f.val = 1 / 1024 := if_neg (by have := f.isLt; omega)
    rw [hghi, hphi, if_neg h, if_neg h, hw, mul_comm, crossIm, neg_mul (1 / 1024 : ℝ), EReal.neg_mul, mul_neg]
    simp only [sub_eq_add_neg, neg_neg]
    rw [add_comm (-(sinSum q f.val * cosSum k f.val))]
  have htop : g (hi 0) * p (hi 0) = crossRe q k 1024 * ((weight 1024 * Real.cos (turn (τ * 1024)) : ℝ) : EReal) := by
    have hw : weight 1024 = 1 / 2048 := if_pos (Or.inr rfl)
    rw [(hghi 0).trans (if_pos rfl), (hphi 0).trans (if_pos rfl), crossRe_of_sin _ _ _ (sinSum_half q) (sinSum_half k), hw, mul_comm, Nat.mul_comm 1024 τ]
  rw [sum_halves, crossCorr, Fin.sum_univ_castSucc (n := 1024) (fun f : Fin 1025 => crossRe q k f.val * _), Fin.sum_univ_castSucc (n := 1024) (fun f : Fin 1025 => crossIm q k f.val * _)]
  have e1 : (∑ f : Fin 1024, g (lo f) * p (lo f))
      = ∑ f : Fin 1024, crossRe q k f.castSucc.val * ((weight f.castSucc.val * Real.cos (turn (τ * f.castSucc.val)) : ℝ) : EReal) :=
    Finset.sum_congr rfl fun f _ => hlo f
  have e2 : (∑ f : Fin 1024, g (hi f) * p (hi f))
      = crossRe q k 1024 * ((weight 1024 * Real.cos (turn (τ * 1024)) : ℝ) : EReal)
        + ∑ f : Fin 1024, crossIm q k f.castSucc.val * ((-(weight f.castSucc.val * Real.sin (turn (τ * f.castSucc.val))) : ℝ) : EReal) := by
    rw [Fin.sum_univ_succ, Fin.sum_univ_succ (n := 1023) (fun f : Fin 1024 => crossIm q k f.castSucc.val * _), htop]
    refine congrArg₂ (· + ·) rfl ?_
    have z : crossIm q k (Fin.castSucc (0 : Fin 1024)).val = 0 := crossIm_of_sin q k 0 (sinSum_zero q) (sinSum_zero k)
    rw [z, zero_mul, zero_add]
    exact Finset.sum_congr rfl fun f _ => hhi f.succ (by rw [Fin.val_succ]; omega)
  have zl : crossIm q k (Fin.last 1024).val = 0 := crossIm_of_sin q k 1024 (sinSum_half q) (sinSum_half k)
  rw [e1, e2, zl, zero_mul, add_zero, Fin.val_last, add_assoc]

/-- The greatest over all lags, lag 0 held at the least value, is the greatest over the lags from 1. -/
theorem sup_from_one (f : ℕ → EReal) :
    (Finset.univ.sup fun τ : Fin 2048 => if τ.val = 0 then ⊥ else f τ.val) = Finset.univ.sup fun l : Fin 2047 => f (1 + l.val) := by
  apply le_antisymm
  · refine Finset.sup_le fun τ _ => ?_
    by_cases h : τ.val = 0
    · rw [if_pos h]; exact bot_le
    · rw [if_neg h]
      have e : f τ.val = (fun l : Fin 2047 => f (1 + l.val)) ⟨τ.val - 1, by have := τ.isLt; omega⟩ := congrArg f (by show τ.val = 1 + (τ.val - 1); omega)
      rw [e]
      exact Finset.le_sup (f := fun l : Fin 2047 => f (1 + l.val)) (Finset.mem_univ _)
  · refine Finset.sup_le fun l _ => ?_
    have e : f (1 + l.val) = (fun τ : Fin 2048 => if τ.val = 0 then ⊥ else f τ.val) ⟨1 + l.val, by have := l.isLt; omega⟩ :=
      (if_neg (by show ¬ (1 + l.val = 0); omega)).symm
    rw [e]
    exact Finset.le_sup (f := fun τ : Fin 2048 => if τ.val = 0 then (⊥ : EReal) else f τ.val) (Finset.mem_univ _)

end Cert.Math
-- ==== Proof.Value.Call0.lean ====
/- Call 0 of the kernel, its three result arrays: the projections of the three inputs. -/
module

public import proofs.«01_k».proof.Proof.Whole.KernelIdeal.Call0
public import proofs.«01_k».proof.Proof.Value.Formulas
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole
open Idealize.SL Idealize.SL.RA

variable (V : (c : Dev nD) → (b : Ref sig .tc) → Buf (Elt Ideal) ((c : Thread nD τ).loc b))

/-- The index maps of the call's windows. -/
theorem idx0_0 : ∀ t : Fin cfg0.N, win0_0.index t = ![(grid0.coords t 0).val, 0] := (by decide +kernel : ∀ t : Fin grid0.N, _)
theorem idx0_1 : ∀ t : Fin cfg0.N, win0_1.index t = ![(grid0.coords t 0).val, 0] := (by decide +kernel : ∀ t : Fin grid0.N, _)
theorem idx0_2 : ∀ t : Fin cfg0.N, win0_2.index t = ![(grid0.coords t 0).val, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![(grid0.coords t 0).val, 0] := (by decide +kernel : ∀ t : Fin grid0.N, _)
theorem idx0_10 : ∀ t : Fin cfg0.N, win0_10.index t = ![(grid0.coords t 0).val, 0] := (by decide +kernel : ∀ t : Fin grid0.N, _)
theorem idx0_11 : ∀ t : Fin cfg0.N, win0_11.index t = ![(grid0.coords t 0).val, 0] := (by decide +kernel : ∀ t : Fin grid0.N, _)

/-- The first result is the projection of the first input. -/
theorem arr0_9 (c : Dev nD) :
    (dat0 V c).arrAt 9 cfg0.N = proj (V c main_v54) (V c main_v57) (V c main_v60) := by
  refine (dat0 V c).arrAt_eq_of_covers 9 _ (by decide +kernel) fun t hf y => ?_
  blk_simp
  rw [after0_9]
  unfold out0_9
  frame_out
  unfold k0_pay2
  pointwise
  blk_simp [iblk0]
  show @Eq EReal _ _
  unfold proj
  refine congrArg₂ (· + ·) (Finset.sum_congr rfl fun k _ => congrArg₂ (· * ·) (congrArg (V c main_v54) ?_)
    (congrArg (V c main_v57) ?_)) (congrArg (V c main_v60) ?_)
  · refine ext2 ?_ ?_ <;> blk_simp [idx0_0, idx0_9] <;> rfl
  · refine ext2 ?_ ?_ <;> blk_simp [idx0_3, idx0_9] <;> rfl
  · refine ext2 ?_ ?_ <;> blk_simp [idx0_6, idx0_9] <;> rfl

/-- The second result is the projection of the second input. -/
theorem arr0_10 (c : Dev nD) :
    (dat0 V c).arrAt 10 cfg0.N = proj (V c main_v55) (V c main_v58) (V c main_v61) := by
  refine (dat0 V c).arrAt_eq_of_covers 10 _ (by decide +kernel) fun t hf y => ?_
  blk_simp
  rw [after0_10]
  unfold out0_10
  frame_out
  unfold k0_pay3
  pointwise
  blk_simp [iblk0]
  show @Eq EReal _ _
  unfold proj
  refine congrArg₂ (· + ·) (Finset.sum_congr rfl fun k _ => congrArg₂ (· * ·) (congrArg (V c main_v55) ?_)
    (congrArg (V c main_v58) ?_)) (congrArg (V c main_v61) ?_)
  · refine ext2 ?_ ?_ <;> blk_simp [idx0_1, idx0_10] <;> rfl
  · refine ext2 ?_ ?_ <;> blk_simp [idx0_4, idx0_10] <;> rfl
  · refine ext2 ?_ ?_ <;> blk_simp [idx0_7, idx0_10] <;> rfl

/-- The third result is the projection of the third input. -/
theorem arr0_11 (c : Dev nD) :
    (dat0 V c).arrAt 11 cfg0.N = proj (V c main_v56) (V c main_v59) (V c main_v62) := by
  refine (dat0 V c).arrAt_eq_of_covers 11 _ (by decide +kernel) fun t hf y => ?_
  blk_simp
  rw [after0_11]
  unfold out0_11
  frame_out
  unfold k0_pay1 k0_pay4
  pointwise
  blk_simp [iblk0]
  show @Eq EReal _ _
  unfold proj
  refine congrArg₂ (· + ·) (Finset.sum_congr rfl fun k _ => congrArg₂ (· * ·) (congrArg (V c main_v56) ?_)
    (congrArg (V c main_v59) ?_)) (congrArg (V c main_v62) ?_)
  · refine ext2 ?_ ?_ <;> blk_simp [idx0_2, idx0_11] <;> rfl
  · refine ext2 ?_ ?_ <;> blk_simp [idx0_5, idx0_11] <;> rfl
  · refine ext2 ?_ ?_ <;> blk_simp [idx0_8, idx0_11] <;> rfl

end Cert.KernelIdeal.Value
-- ==== Proof.Value.Call1.lean ====
/- Call 1 of the kernel, its two result arrays: the forward transforms of the two projected arrays. -/
module

public import proofs.«01_k».proof.Proof.Whole.KernelIdeal.Call1
public import proofs.«01_k».proof.Proof.Value.Formulas
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole
open Idealize.SL Idealize.SL.RA

variable (V : (c : Dev nD) → (b : Ref sig .tc) → Buf (Elt Ideal) ((c : Thread nD τ).loc b))

/-- The index maps of the call's windows. -/
theorem idx1_0 : ∀ t : Fin cfg1.N, win1_0.index t = ![(grid1.coords t 1).val, 0] := (by decide +kernel : ∀ t : Fin grid1.N, _)
theorem idx1_1 : ∀ t : Fin cfg1.N, win1_1.index t = ![(grid1.coords t 0).val, 0, (grid1.coords t 2).val] := (by decide +kernel : ∀ t : Fin grid1.N, _)
theorem idx1_2 : ∀ t : Fin cfg1.N, win1_2.index t = ![(grid1.coords t 0).val, 0, (grid1.coords t 2).val] := (by decide +kernel : ∀ t : Fin grid1.N, _)
theorem idx1_3 : ∀ t : Fin cfg1.N, win1_3.index t = ![(grid1.coords t 0).val, (grid1.coords t 1).val, (grid1.coords t 2).val] := (by decide +kernel : ∀ t : Fin grid1.N, _)
theorem idx1_4 : ∀ t : Fin cfg1.N, win1_4.index t = ![(grid1.coords t 0).val, (grid1.coords t 1).val, (grid1.coords t 2).val] := (by decide +kernel : ∀ t : Fin grid1.N, _)

/-- The first result is the transform of the first projected array. -/
theorem arr1_3 (c : Dev nD) : (dat1 V c).arrAt 3 cfg1.N = forward (V c main_v23) (V c main_v64) := by
  refine (dat1 V c).arrAt_eq_of_covers 3 _ (by decide +kernel) fun t hf y => ?_
  blk_simp
  rw [after1_3]
  unfold out1_3
  frame_out
  unfold k1_pay1
  pointwise
  blk_simp [iblk1]
  show @Eq EReal _ _
  unfold forward
  refine Finset.sum_congr rfl fun k _ => congrArg₂ (· * ·) (congrArg (V c main_v23) ?_) (congrArg (V c main_v64) ?_)
  · refine ext2 ?_ ?_ <;> blk_simp [idx1_0, idx1_3] <;> rfl
  · refine ext3 ?_ ?_ ?_ <;> blk_simp [idx1_1, idx1_3] <;> rfl

/-- The second result is the transform of the second projected array. -/
theorem arr1_4 (c : Dev nD) : (dat1 V c).arrAt 4 cfg1.N = forward (V c main_v23) (V c main_v65) := by
  refine (dat1 V c).arrAt_eq_of_covers 4 _ (by decide +kernel) fun t hf y => ?_
  blk_simp
  rw [after1_4]
  unfold out1_4
  frame_out
  unfold k1_pay2
  pointwise
  blk_simp [iblk1]
  show @Eq EReal _ _
  unfold forward
  refine Finset.sum_congr rfl fun k _ => congrArg₂ (· * ·) (congrArg (V c main_v23) ?_) (congrArg (V c main_v65) ?_)
  · refine ext2 ?_ ?_ <;> blk_simp [idx1_0, idx1_4] <;> rfl
  · refine ext3 ?_ ?_ ?_ <;> blk_simp [idx1_2, idx1_4] <;> rfl

end Cert.KernelIdeal.Value
-- ==== Proof.Value.Call2.lean ====
/- Call 2 of the kernel, its result array: the product of the two spectra. -/
module

public import proofs.«01_k».proof.Proof.Whole.KernelIdeal.Call2
public import proofs.«01_k».proof.Proof.Value.Formulas
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole
open Idealize.SL Idealize.SL.RA

variable (V : (c : Dev nD) → (b : Ref sig .tc) → Buf (Elt Ideal) ((c : Thread nD τ).loc b))

/-- The index maps of the call's windows. -/
theorem idx2_0 : ∀ t : Fin cfg2.N, win2_0.index t = ![(grid2.coords t 0).val, 0, (grid2.coords t 1).val] := (by decide +kernel : ∀ t : Fin grid2.N, _)
theorem idx2_1 : ∀ t : Fin cfg2.N, win2_1.index t = ![(grid2.coords t 0).val, 0, (grid2.coords t 1).val] := (by decide +kernel : ∀ t : Fin grid2.N, _)
theorem idx2_2 : ∀ t : Fin cfg2.N, win2_2.index t = ![(grid2.coords t 0).val, 0, (grid2.coords t 1).val] := (by decide +kernel : ∀ t : Fin grid2.N, _)

/-- The result is the packed product of the two spectra. -/
theorem arr2_2 (c : Dev nD) : (dat2 V c).arrAt 2 cfg2.N = point (V c main_v67_0) (V c main_v67_1) := by
  refine (dat2 V c).arrAt_eq_of_covers 2 _ (by decide +kernel) fun t hf y => ?_
  blk_simp
  rw [after2_2]
  unfold out2_2
  rw [View.canon_apply_of_pieces (fun y => point (V c main_v67_0) (V c main_v67_1) ((win2_2.blk t).view.emb y)) _ _ y
    (cover2_2 _ _ y)]
  intro p hp
  rcases List.mem_cons.mp hp with rfl | hp
  · clear hp
    intro x
    dsimp only
    unfold k2_pay7 k2_pay1 k2_pay2 k2_pay3 k2_pay4 k2_pay5
    pointwise
    blk_simp [iblk2]
    have hx : (x 1).val < 1024 := (x 1).isLt
    obtain ⟨b, hb⟩ : ∃ b : Fin 4, (grid2.coords t 0).val = b.val := ⟨⟨_, (grid2.coords t 0).isLt⟩, rfl⟩
    obtain ⟨d, hd⟩ : ∃ d : Fin 1024, (grid2.coords t 1).val * 512 + (x 2).val = d.val :=
      ⟨⟨_, by have h1 : (grid2.coords t 1).val < 2 := (grid2.coords t 1).isLt
              have h2 : (x 2).val < 512 := (x 2).isLt
              omega⟩, rfl⟩
    rw [select_row0 _ hx]
    refine Eq.trans ?_ (congrArg (point (V c main_v67_0) (V c main_v67_1)) (a₁ := ix3 b (hi ⟨(x 1).val, hx⟩) d) (ext3 ?_ ?_ ?_).symm)
    · show @Eq EReal _ _
      rw [point_hi]
      unfold pointHi
      refine if_congr Iff.rfl (congrArg₂ (· * ·) (congrArg (V c main_v67_0) ?_) (congrArg (V c main_v67_1) ?_))
        (congrArg₂ (· - ·) (congrArg₂ (· * ·) (congrArg (V c main_v67_0) ?_) (congrArg (V c main_v67_1) ?_)) (congrArg₂ (· * ·) (congrArg (V c main_v67_0) ?_) (congrArg (V c main_v67_1) ?_)))
      all_goals refine ext3 ?_ ?_ ?_ <;> blk_simp [idx2_0, idx2_1] <;> first | exact hb | rfl | exact hd
    all_goals blk_simp [idx2_2]
    all_goals first | exact hb | exact hd | skip
  · rcases List.mem_singleton.mp hp with rfl
    clear hp
    intro x
    dsimp only
    unfold k2_pay6 k2_pay1 k2_pay2 k2_pay3 k2_pay4 k2_pay5
    pointwise
    blk_simp [iblk2]
    have hx : (x 1).val < 1024 := (x 1).isLt
    obtain ⟨b, hb⟩ : ∃ b : Fin 4, (grid2.coords t 0).val = b.val := ⟨⟨_, (grid2.coords t 0).isLt⟩, rfl⟩
    obtain ⟨d, hd⟩ : ∃ d : Fin 1024, (grid2.coords t 1).val * 512 + (x 2).val = d.val :=
      ⟨⟨_, by have h1 : (grid2.coords t 1).val < 2 := (grid2.coords t 1).isLt
              have h2 : (x 2).val < 512 := (x 2).isLt
              omega⟩, rfl⟩
    rw [select_row0 _ hx]
    refine Eq.trans ?_ (congrArg (point (V c main_v67_0) (V c main_v67_1)) (a₁ := ix3 b (lo ⟨(x 1).val, hx⟩) d) (ext3 ?_ ?_ ?_).symm)
    · show @Eq EReal _ _
      rw [point_lo]
      unfold pointLo
      refine congrArg₂ (· + ·) (congrArg₂ (· * ·) (congrArg (V c main_v67_0) ?_) (congrArg (V c main_v67_1) ?_))
        (if_congr Iff.rfl rfl (congrArg₂ (· * ·) (congrArg (V c main_v67_0) ?_) (congrArg (V c main_v67_1) ?_)))
      all_goals refine ext3 ?_ ?_ ?_ <;> blk_simp [idx2_0, idx2_1] <;> first | exact hb | rfl | exact hd
    all_goals blk_simp [idx2_2]
    all_goals first | exact hb | exact hd | skip

end Cert.KernelIdeal.Value
-- ==== Proof.Value.Call3.lean ====
/- Call 3 of the kernel, its result array: the greatest correlation over the lags from 1 on. -/
module

public import proofs.«01_k».proof.Proof.Whole.KernelIdeal.Call3
public import proofs.«01_k».proof.Proof.Value.Formulas
public import proofs.«01_k».proof.Proof.Value.Words
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole
open Idealize.SL Idealize.SL.RA

variable (V : (c : Dev nD) → (b : Ref sig .tc) → Buf (Elt Ideal) ((c : Thread nD τ).loc b))

/-- The index maps of the call's windows. -/
theorem idx3_0 : ∀ t : Fin cfg3.N, win3_0.index t = ![t.val % 4, 0] := (by decide +kernel : ∀ t : Fin grid3.N, _)
theorem idx3_1 : ∀ t : Fin cfg3.N, win3_1.index t = ![t.val / 8, 0, t.val / 4 % 2] := (by decide +kernel : ∀ t : Fin grid3.N, _)
theorem idx3_2 : ∀ t : Fin cfg3.N, win3_2.index t = ![t.val / 8, 0, t.val / 4 % 2] := (by decide +kernel : ∀ t : Fin grid3.N, _)

/-- A maximum started on two blocks: over the tile's rows but the first. -/
theorem start3_apply (x0 : Vec Ideal S512x2048 .f32) (x1 : Vec Ideal S1x2048x512 .f32) (r : Fin 8) (d : Fin 512) :
    start3 x0 x1 (ix3 0 r d) = Finset.univ.fold max (⊥ : EReal) (fun τ : Fin 512 =>
      if τ.val = 0 then ⊥ else ∑ k : Fin 2048, (x0 (ix2 τ k) : EReal) * x1 (ix3 0 k d)) := by
  unfold start3
  frame_out
  unfold k3_pay2 k3_pay1
  pointwise
  rw [Math.word_neg_inf]
  refine Finset.fold_congr fun τ _ => ?_
  exact select_row0 τ.val (by omega) _ _

/-- A maximum extended by two blocks: over all the tile's rows. -/
theorem next3_apply (x0 : Vec Ideal S512x2048 .f32) (x1 : Vec Ideal S1x2048x512 .f32) (x2 : Vec Ideal S1x8x512 .f32) (r : Fin 8) (d : Fin 512) :
    next3 x0 x1 x2 (ix3 0 r d) = max (x2 (ix3 0 r d) : EReal) (Finset.univ.fold max (⊥ : EReal) (fun τ : Fin 512 =>
      ∑ k : Fin 2048, (x0 (ix2 τ k) : EReal) * x1 (ix3 0 k d))) := by
  unfold next3
  frame_out
  unfold k3_pay3 k3_pay1
  pointwise
  rw [Math.word_neg_inf]

/-- A block of the matrix at a point: the rows of the lag tile. -/
def rows3 (c : Dev nD) (t : Fin cfg3.N) : S512x2048.Idx → EReal := iblk3 V c 0 t
/-- A block of the product at a point. -/
def cols3 (c : Dev nD) (t : Fin cfg3.N) : S1x2048x512.Idx → EReal := iblk3 V c 1 t

/-- The product of the two blocks at a point, element by element: the correlation of a batch, at a lag and a channel that
    the point determines. -/
theorem tile3 (c : Dev nD) (t : Fin cfg3.N) (τ : Fin 512) (d : Fin 512) (b : Fin 4) (e : Fin 1024) (l : Fin 2048)
    (hb : t.val / 8 = b.val) (he : t.val / 4 % 2 * 512 + d.val = e.val) (hl : t.val % 4 * 512 + τ.val = l.val) :
    ∑ k : Fin 2048, rows3 V c t (ix2 τ k) * cols3 V c t (ix3 0 k d) = corr (V c main_v53) (V c main_v68) b e l := by
  unfold corr rows3 cols3
  refine Finset.sum_congr rfl fun k _ => congrArg₂ (· * ·) ?_ ?_
  · blk_simp [iblk3]
    refine congrArg (V c main_v53) (ext2 ?_ ?_) <;> blk_simp [idx3_0] <;> first | exact hl | rfl
  · blk_simp [iblk3]
    refine congrArg (V c main_v68) (ext3 ?_ ?_ ?_) <;> blk_simp [idx3_1] <;> first | exact hb | exact he | rfl

/-- The running maximum after point `n`. -/
def run3 (c : Dev nD) (n : ℕ) (h : n < cfg3.N) : S1x8x512.Idx → EReal := acc3 V c n h

/-- The bound where a maximum is started. -/
theorem first3_le (c : Dev nD) (r : Fin 8) (d : Fin 512) (z : EReal) (t : Fin cfg3.N) (ht : t.val % 4 = 0) (b : Fin 4)
    (e : Fin 1024) (hb : t.val / 8 = b.val) (he : t.val / 4 % 2 * 512 + d.val = e.val) :
    (run3 V c t.val t.isLt (ix3 0 r d) ≤ z ↔
      ∀ l : Fin 2048, l.val < 512 * (t.val % 4 + 1) → l.val ≠ 0 → corr (V c main_v53) (V c main_v68) b e l ≤ z) := by
  unfold run3
  rw [acc3_first V c t ht, start3_apply, Finset.fold_max_le]
  constructor
  · rintro ⟨-, h2⟩ l hl h0
    have := h2 ⟨l.val, by omega⟩ (Finset.mem_univ _)
    rw [if_neg h0] at this
    refine le_trans (le_of_eq ?_) this
    exact (tile3 V c t _ d b e l hb he (by dsimp only; omega)).symm
  · intro hz
    refine ⟨bot_le, fun τ _ => ?_⟩
    by_cases h0 : τ.val = 0
    · rw [if_pos h0]; exact bot_le
    · rw [if_neg h0]
      refine le_trans (le_of_eq (tile3 V c t τ d b e ⟨t.val % 4 * 512 + τ.val, by omega⟩ hb he rfl)) ?_
      exact hz _ (by dsimp only; omega) (by dsimp only; omega)

/-- The running maximum after a point is the least bound of the correlations at the lags from 1 on seen so far. -/
theorem run3_le (c : Dev nD) (r : Fin 8) (d : Fin 512) (z : EReal) : ∀ (n : ℕ) (h : n < cfg3.N) (b : Fin 4) (e : Fin 1024),
    n / 8 = b.val → n / 4 % 2 * 512 + d.val = e.val →
    (run3 V c n h (ix3 0 r d) ≤ z ↔
      ∀ l : Fin 2048, l.val < 512 * (n % 4 + 1) → l.val ≠ 0 → corr (V c main_v53) (V c main_v68) b e l ≤ z) := by
  intro n
  induction n with
  | zero => ?_
  | succ n ih => ?_
  all_goals intro h b e hb he
  · exact first3_le V c r d z ⟨0, h⟩ rfl b e hb he
  · by_cases hn : (n + 1) % 4 = 0
    · exact first3_le V c r d z ⟨n + 1, h⟩ hn b e hb he
    · unfold run3
      rw [acc3_next V c ⟨n + 1, h⟩ hn, next3_apply]
      rw [max_le_iff, Finset.fold_max_le]
      have hi := ih (by omega) b e (by omega) (by omega)
      unfold run3 at hi
      constructor
      · rintro ⟨h1, -, h2⟩ l hl h0
        by_cases hlt : l.val < 512 * (n % 4 + 1)
        · exact hi.mp h1 l hlt h0
        · have := h2 ⟨l.val - 512 * (n % 4 + 1), by omega⟩ (Finset.mem_univ _)
          refine le_trans (le_of_eq ?_) this
          exact (tile3 V c ⟨n + 1, h⟩ _ d b e l hb he (by dsimp only; omega)).symm
      · intro hz
        refine ⟨hi.mpr fun l hl h0 => hz l (by omega) h0, bot_le, fun τ _ => ?_⟩
        refine le_trans (le_of_eq (tile3 V c ⟨n + 1, h⟩ τ d b e ⟨(n + 1) % 4 * 512 + τ.val, by omega⟩ hb he rfl)) ?_
        exact hz _ (by dsimp only; omega) (by dsimp only; omega)

/-- The result holds, in each of its eight rows, the greatest correlation over the lags from 1 on. -/
theorem arr3_2 (c : Dev nD) : (dat3 V c).arrAt 2 cfg3.N
    = fun i : S4x8x1024.Idx => lagMax (V c main_v53) (V c main_v68) (i 0) (i 2) := by
  refine (dat3 V c).arrAt_eq_of_covers 2 _ (by decide +kernel) fun t hf y => ?_
  have ht : t.val % 4 = 3 := (by decide +kernel : ∀ t : Fin grid3.N, win3_2.flush t = true → t.val % 4 = 3) t hf
  blk_simp
  rw [after3_2]
  have hle := fun z => run3_le V c (y 1) (y 2) z t.val t.isLt ((win3_2.blk t).view.emb y 0) ((win3_2.blk t).view.emb y 2)
    (by blk_simp [idx3_2]) (by blk_simp [idx3_2])
  have hy : y = ix3 0 (y 1) (y 2) := by
    refine ext3 ?_ rfl rfl
    have : (y 0).val < 1 := (y 0).isLt
    show (y 0).val = 0
    omega
  show @Eq EReal _ _
  refine eq_of_forall_ge_iff fun z => Iff.trans (Iff.trans ?_ (hle z)) ?_
  · exact Iff.of_eq (congrArg (fun i => run3 V c t.val t.isLt i ≤ z) hy)
  · unfold lagMax
    rw [Finset.sup_le_iff]
    constructor
    · intro h τ _
      by_cases h0 : τ.val = 0
      · rw [if_pos h0]; exact bot_le
      · rw [if_neg h0]; exact h τ (by omega) h0
    · intro h l _ h0
      have := h l (Finset.mem_univ _)
      rw [if_neg h0] at this
      exact this

end Cert.KernelIdeal.Value
-- ==== Proof.Value.Call4.lean ====
/- Call 4 of the kernel: the lanes of its result array that the later steps read. -/
module

public import proofs.«01_k».proof.Proof.Whole.KernelIdeal.Call4
public import proofs.«01_k».proof.Proof.Value.Formulas
public import Idealize.ShloMosaic.Lib.Pipeline.ValueKit
public import Idealize.ShloMosaic.Lib.Pipeline.ValueKit.Partial

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole
open Idealize.SL Idealize.SL.RA

variable (V : (c : Dev nD) → (b : Ref sig .tc) → Buf (Elt Ideal) ((c : Thread nD τ).loc b))

/-- The index maps of the call's windows. -/
theorem idx4_0 : ∀ t : Fin cfg4.N, win4_0.index t = ![(grid4.coords t 0).val, 0, 0, 0] := (by decide +kernel : ∀ t : Fin grid4.N, _)
theorem idx4_1 : ∀ t : Fin cfg4.N, win4_1.index t = ![(grid4.coords t 0).val, 0, 0, 0] := (by decide +kernel : ∀ t : Fin grid4.N, _)

/-- Lane `l` below 128 of the result is lane `l` of the operand. -/
theorem arr4_1 (c : Dev nD) (i : S4x16x64x2047.Idx) (hi : (i 3).val < 128) :
    ((dat4 V c).arrAt 1 cfg4.N : S4x16x64x2047.Idx → EReal) i
      = (V c main_v73 : S4x16x64x128.Idx → EReal) (ix4 (i 0) (i 1) (i 2) ⟨(i 3).val, hi⟩) := by
  refine ((dat4 V c).arrAt_emb_eq_of_coversWhere 1
    (fun i : S4x16x64x2047.Idx => (V c main_v73 : S4x16x64x128.Idx → EReal)
      (ix4 (i 0) (i 1) (i 2) ⟨(i 3).val % 128, Nat.mod_lt _ (by decide)⟩))
    (fun β => β (3 : Fin 4) = 0) (by decide +kernel) (fun t hf y => ?_) i).trans ?_
  · blk_simp
    rw [after4_1]
    unfold out4_1
    frame_out
    unfold k4_pay1
    pointwise
    blk_simp [iblk4]
    show @Eq EReal _ _
    have h0 : (y 0).val < 1 := (win4_1.xinj (grid4.coords t) y 0).isLt
    have h3 : (y 3).val < 128 := (win4_1.xinj (grid4.coords t) y 3).isLt
    refine congrArg (V c main_v73) ?_
    funext a
    refine Fin.ext ?_
    match a with
    | 0 =>
      blk_simp [idx4_0, idx4_1]
      change (grid4.coords t 0).val = (grid4.coords t 0).val + (y 0).val
      omega
    | 1 => blk_simp [idx4_0, idx4_1]
    | 2 => blk_simp [idx4_0, idx4_1]
    | 3 =>
      blk_simp [idx4_0, idx4_1]
      exact (Nat.mod_eq_of_lt h3).symm
  · refine (if_pos (show (i 3).val / 128 = 0 by omega)).trans ?_
    refine congrArg (V c main_v73 : S4x16x64x128.Idx → EReal) ?_
    refine congrArg (ix4 _ _ _) (Fin.ext ?_)
    exact Nat.mod_eq_of_lt hi

end Cert.KernelIdeal.Value
-- ==== Proof.Value.Call5.lean ====
/- Call 5 of the kernel, its result array: the output projection of the shifted values. -/
module

public import proofs.«01_k».proof.Proof.Whole.KernelIdeal.Call5
public import proofs.«01_k».proof.Proof.Value.Formulas
public import Idealize.ShloMosaic.Lib.Pipeline.ValueKit

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole
open Idealize.SL Idealize.SL.RA

variable (V : (c : Dev nD) → (b : Ref sig .tc) → Buf (Elt Ideal) ((c : Thread nD τ).loc b))

/-- The index maps of the call's windows. -/
theorem idx5_0 : ∀ t : Fin cfg5.N, win5_0.index t = ![(grid5.coords t 0).val, 0, 0] := (by decide +kernel : ∀ t : Fin grid5.N, _)
theorem idx5_1 : ∀ t : Fin cfg5.N, win5_1.index t = ![(grid5.coords t 0).val, (grid5.coords t 1).val, 0] := (by decide +kernel : ∀ t : Fin grid5.N, _)
theorem idx5_2 : ∀ t : Fin cfg5.N, win5_2.index t = ![(grid5.coords t 0).val, ((grid5.coords t 1).val + 3) % 4, 0] := (by decide +kernel : ∀ t : Fin grid5.N, _)
theorem idx5_3 : ∀ t : Fin cfg5.N, win5_3.index t = ![0, 0] := (by decide +kernel : ∀ t : Fin grid5.N, _)
theorem idx5_4 : ∀ t : Fin cfg5.N, win5_4.index t = ![0, 0] := (by decide +kernel : ∀ t : Fin grid5.N, _)
theorem idx5_5 : ∀ t : Fin cfg5.N, win5_5.index t = ![(grid5.coords t 0).val, (grid5.coords t 1).val, 0] := (by decide +kernel : ∀ t : Fin grid5.N, _)

/-- The result is the output projection of the shifted values. -/
theorem arr5_5 (c : Dev nD) :
    (dat5 V c).arrAt 5 cfg5.N = output (V c main_v92) (V c main_v66) (V c main_v93) (V c main_v94) := by
  refine (dat5 V c).arrAt_eq_of_covers 5 _ (by decide +kernel) fun t hf y => ?_
  blk_simp
  rw [after5_5]
  unfold out5_5
  frame_out
  unfold k5_pay1
  pointwise
  blk_simp [iblk5]
  show @Eq EReal _ _
  unfold output
  refine congrArg₂ (· + ·) (Finset.sum_congr rfl fun k _ => congrArg₂ (· * ·) ?_
    (congrArg (V c main_v93) ?_)) (congrArg (V c main_v94) ?_)
  · refine if_congr (Iff.of_eq (congrArg (fun z : EReal => Ideal.ofBits FTy.f32 0x3F000000#32 < z)
      (congrArg (V c main_v92) ?hs))) ?ht (congrArg (V c main_v66) ?he)
    case hs => refine ext3 ?_ ?_ ?_ <;> blk_simp [idx5_0, idx5_5] <;> rfl
    case he => refine ext3 ?_ ?_ ?_ <;> blk_simp [idx5_1, idx5_5] <;> rfl
    case ht =>
      have hy : (y 1).val < 512 := (y 1).isLt
      have hc : (grid5.coords t 1).val < 4 := (grid5.coords t 1).isLt
      split
      · refine congrArg (V c main_v66) (ext3 ?_ ?_ ?_) <;> blk_simp [idx5_2, idx5_5]
        · rfl
        · show _ = ((grid5.coords t 1).val * 512 + (y 1).val + 2047) % 2048
          change ((grid5.coords t 1).val + 3) % 4 * 512 + 511 = _
          omega
      · refine congrArg (V c main_v66) (ext3 ?_ ?_ ?_) <;> blk_simp [idx5_1, idx5_5]
        · rfl
        · change (grid5.coords t 1).val * 512 + ((y 1).val - 1) = ((grid5.coords t 1).val * 512 + (y 1).val + 2047) % 2048
          omega
  · refine ext2 ?_ ?_ <;> blk_simp [idx5_3, idx5_5] <;> rfl
  · refine ext2 ?_ ?_ <;> blk_simp [idx5_4, idx5_5] <;> rfl

end Cert.KernelIdeal.Value
-- ==== Proof.Value.KernelValue.lean ====
/- The kernel's result, entry by entry, in terms of its arguments. -/
module

public import proofs.«01_k».proof.Proof.Value.Tables
public import proofs.«01_k».proof.Proof.Value.Stretch1
public import proofs.«01_k».proof.Proof.Value.Packed
public import proofs.«01_k».proof.Proof.Value.Call0
public import proofs.«01_k».proof.Proof.Value.Call1
public import proofs.«01_k».proof.Proof.Value.Call2
public import proofs.«01_k».proof.Proof.Value.Call3
public import proofs.«01_k».proof.Proof.Value.Call4
public import proofs.«01_k».proof.Proof.Value.Call5

@[expose] public section

set_option maxRecDepth 16384

noncomputable section

namespace Cert.KernelIdeal.Value

open Idealize.ShloMosaic Idealize.ShloMosaic.TcCoe Idealize.ShloMosaic.Tactic
open Cert.KernelIdeal Cert.KernelIdeal.Gen Cert.KernelIdeal.Whole Cert.Math

variable (m : (ℓ : Loc nD τ sig) → Buf (Elt Ideal) ℓ) (c : Dev nD)

/-- The arguments, as launched. -/
abbrev in0 : S4x2048x1024.Idx → EReal := m ((c : Thread nD τ).loc main_arg0)
abbrev in1 : S4x2048x1024.Idx → EReal := m ((c : Thread nD τ).loc main_arg1)
abbrev in2 : S4x2048x1024.Idx → EReal := m ((c : Thread nD τ).loc main_arg2)
abbrev in3 : S1024x1024.Idx → EReal := m ((c : Thread nD τ).loc main_arg3)
abbrev in4 : S1024.Idx → EReal := m ((c : Thread nD τ).loc main_arg4)
abbrev in5 : S1024x1024.Idx → EReal := m ((c : Thread nD τ).loc main_arg5)
abbrev in6 : S1024.Idx → EReal := m ((c : Thread nD τ).loc main_arg6)
abbrev in7 : S1024x1024.Idx → EReal := m ((c : Thread nD τ).loc main_arg7)
abbrev in8 : S1024.Idx → EReal := m ((c : Thread nD τ).loc main_arg8)
abbrev in9 : S1024x1024.Idx → EReal := m ((c : Thread nD τ).loc main_arg9)
abbrev in10 : S1024.Idx → EReal := m ((c : Thread nD τ).loc main_arg10)

/-- A projection of the rows of an argument. -/
def project (x : S4x2048x1024.Idx → EReal) (w : S1024x1024.Idx → EReal) (b : S1024.Idx → EReal) (n : Fin 4) (t : Fin 2048) (d : Fin 1024) : EReal :=
  affine (fun e => x (ix3 n t e)) (fun e => w (ix2 d e)) (b (ix1 d))

/-- A projection over the flattened rows, with the weights transposed. -/
theorem proj_eq (X : S8192x1024.Idx → EReal) (Wt : S1024x1024.Idx → EReal) (B : S1x1024.Idx → EReal)
    (x : S4x2048x1024.Idx → EReal) (w : S1024x1024.Idx → EReal) (b : S1024.Idx → EReal)
    (hx : ∀ n t e, X (ix2 (flat n t) e) = x (ix3 n t e)) (hw : ∀ e d, Wt (ix2 e d) = w (ix2 d e)) (hb : ∀ d, B (ix2 0 d) = b (ix1 d))
    (n : Fin 4) (t : Fin 2048) (d : Fin 1024) : proj X Wt B (ix2 (flat n t) d) = project x w b n t d := by
  show (∑ e : Fin 1024, X (ix2 (flat n t) e) * Wt (ix2 e d)) + B (ix2 0 d) = (∑ e : Fin 1024, x (ix3 n t e) * w (ix2 d e)) + b (ix1 d)
  rw [hb]
  exact congrArg (· + b (ix1 d)) (Finset.sum_congr rfl fun e _ => by rw [hx, hw])

/-- The three projections that the first call leaves. -/
abbrev qOf : Fin 4 → Fin 2048 → Fin 1024 → EReal := project (in0 m c) (in3 m c) (in4 m c)
abbrev kOf : Fin 4 → Fin 2048 → Fin 1024 → EReal := project (in1 m c) (in5 m c) (in6 m c)
abbrev vOf : Fin 4 → Fin 2048 → Fin 1024 → EReal := project (in2 m c) (in7 m c) (in8 m c)

/-- The arguments are as launched when the first call's operands are laid out. -/
theorem w8_kept (a : Ref sig .tc) (ha : a ∈ argRefs) : W8 m c (Proc.devRef .tc a) = m ((c : Thread nD τ).loc a) := W8_kept m c a ha

/-- The projected queries, with the batch split off. -/
theorem q11 (n : Fin 4) (t : Fin 2048) (d : Fin 1024) :
    (W11 m c (Proc.devRef .tc main_v64) : S4x2048x1024.Idx → EReal) (ix3 n t d) = qOf m c n t d := by
  refine (h1_64 (W10 m c) n t d).trans ?_
  refine (congrFun ((W10_arr m c 9).trans (arr0_9 (read (W9 m)) c)) (ix2 (flat n t) d)).trans ?_
  exact proj_eq _ _ _ _ _ _
    (fun n t e => (s8_54 (W8 m c) n t e).trans (congrFun (w8_kept m c main_arg0 (by decide)) (ix3 n t e)))
    (fun e d => (s8_57 (W8 m c) e d).trans (congrFun (w8_kept m c main_arg3 (by decide)) (ix2 d e)))
    (fun d => (s8_60 (W8 m c) d).trans (congrFun (w8_kept m c main_arg4 (by decide)) (ix1 d))) n t d

/-- The projected keys, with the batch split off. -/
theorem k11 (n : Fin 4) (t : Fin 2048) (d : Fin 1024) :
    (W11 m c (Proc.devRef .tc main_v65) : S4x2048x1024.Idx → EReal) (ix3 n t d) = kOf m c n t d := by
  refine (h1_65 (W10 m c) n t d).trans ?_
  refine (congrFun ((W10_arr m c 10).trans (arr0_10 (read (W9 m)) c)) (ix2 (flat n t) d)).trans ?_
  exact proj_eq _ _ _ _ _ _
    (fun n t e => (s8_55 (W8 m c) n t e).trans (congrFun (w8_kept m c main_arg1 (by decide)) (ix3 n t e)))
    (fun e d => (s8_58 (W8 m c) e d).trans (congrFun (w8_kept m c main_arg5 (by decide)) (ix2 d e)))
    (fun d => (s8_61 (W8 m c) d).trans (congrFun (w8_kept m c main_arg6 (by decide)) (ix1 d))) n t d

/-- The projected values, with the batch split off. -/
theorem v11 (n : Fin 4) (t : Fin 2048) (d : Fin 1024) :
    (W11 m c (Proc.devRef .tc main_v66) : S4x2048x1024.Idx → EReal) (ix3 n t d) = vOf m c n t d := by
  refine (h1_66 (W10 m c) n t d).trans ?_
  refine (congrFun ((W10_arr m c 11).trans (arr0_11 (read (W9 m)) c)) (ix2 (flat n t) d)).trans ?_
  exact proj_eq _ _ _ _ _ _
    (fun n t e => (s8_56 (W8 m c) n t e).trans (congrFun (w8_kept m c main_arg2 (by decide)) (ix3 n t e)))
    (fun e d => (s8_59 (W8 m c) e d).trans (congrFun (w8_kept m c main_arg7 (by decide)) (ix2 d e)))
    (fun d => (s8_62 (W8 m c) d).trans (congrFun (w8_kept m c main_arg8 (by decide)) (ix1 d))) n t d

/-- The forward table is still in place when the transform reads it. -/
theorem table1_11 (i j : Fin 2048) :
    (W11 m c (Proc.devRef .tc main_v23) : S2048x2048.Idx → EReal) (ix2 i j) = (W9 m c (Proc.devRef .tc main_v23) : S2048x2048.Idx → EReal) (ix2 i j) :=
  (h1_23 (W10 m c) i j).trans (congrFun (W10_of_ne m c main_v23 (by decide)) (ix2 i j))

/-- The inverse table is still in place when the correlation reads it. -/
theorem table2_13 (i j : Fin 2048) :
    (W13 m c (Proc.devRef .tc main_v53) : S2048x2048.Idx → EReal) (ix2 i j) = (W9 m c (Proc.devRef .tc main_v53) : S2048x2048.Idx → EReal) (ix2 i j) :=
  (congrFun ((W13_of_ne m c main_v53 (by decide)).trans (W12_of_ne m c main_v53 (by decide))) (ix2 i j)).trans
    ((h1_53 (W10 m c) i j).trans (congrFun (W10_of_ne m c main_v53 (by decide)) (ix2 i j)))

/-- The packed spectrum of a series: cosine sums. -/
theorem spectrum_lo (g : S2048x2048.Idx → EReal) (x : S4x2048x1024.Idx → EReal) (y : Fin 4 → Fin 2048 → Fin 1024 → EReal)
    (hg : ∀ (f : Fin 1024) (t : Fin 2048), g (ix2 (lo f) t) = ((Real.cos (turn (f.val * t.val)) : ℝ) : EReal))
    (hx : ∀ n t d, x (ix3 n t d) = y n t d) (n : Fin 4) (f : Fin 1024) (d : Fin 1024) :
    forward g x (ix3 n (lo f) d) = cosSum (fun t => y n t d) f.val :=
  Finset.sum_congr rfl fun t _ => (congrArg₂ (· * ·) (hg f t) (hx n t d)).trans (mul_comm _ _)

/-- The packed spectrum of a series: sine sums, but in the first of these rows the cosine sum at the highest frequency. -/
theorem spectrum_hi (g : S2048x2048.Idx → EReal) (x : S4x2048x1024.Idx → EReal) (y : Fin 4 → Fin 2048 → Fin 1024 → EReal)
    (hg : ∀ (f : Fin 1024) (t : Fin 2048), g (ix2 (hi f) t)
      = if f.val = 0 then ((Real.cos (turn (1024 * t.val)) : ℝ) : EReal) else ((Real.sin (turn (f.val * t.val)) : ℝ) : EReal))
    (hx : ∀ n t d, x (ix3 n t d) = y n t d) (n : Fin 4) (f : Fin 1024) (d : Fin 1024) :
    forward g x (ix3 n (hi f) d) = if f.val = 0 then cosSum (fun t => y n t d) 1024 else sinSum (fun t => y n t d) f.val := by
  by_cases h : f.val = 0
  · rw [if_pos h]
    exact Finset.sum_congr rfl fun t _ => (congrArg₂ (· * ·) ((hg f t).trans (if_pos h)) (hx n t d)).trans (mul_comm _ _)
  · rw [if_neg h]
    exact Finset.sum_congr rfl fun t _ => (congrArg₂ (· * ·) ((hg f t).trans (if_neg h)) (hx n t d)).trans (mul_comm _ _)

/-- The two spectra that the second call leaves. -/
abbrev qs : S4x2048x1024.Idx → EReal := W12 m c (Proc.devRef .tc main_v67_0)
abbrev ks : S4x2048x1024.Idx → EReal := W12 m c (Proc.devRef .tc main_v67_1)

/-- The queries' spectrum is the forward transform of the projected queries. -/
theorem qs_eq : qs m c = forward (W11 m c (Proc.devRef .tc main_v23)) (W11 m c (Proc.devRef .tc main_v64)) :=
  (W12_arr m c 3).trans (arr1_3 (read (W11 m)) c)
/-- The keys' spectrum is the forward transform of the projected keys. -/
theorem ks_eq : ks m c = forward (W11 m c (Proc.devRef .tc main_v23)) (W11 m c (Proc.devRef .tc main_v65)) :=
  (W12_arr m c 4).trans (arr1_4 (read (W11 m)) c)

/-- The queries' spectrum in the cosine rows. -/
theorem qs_lo (n : Fin 4) (f d : Fin 1024) : qs m c (ix3 n (lo f) d) = cosSum (fun t => qOf m c n t d) f.val := by
  rw [qs_eq]
  exact spectrum_lo _ _ (qOf m c) (fun f t => (table1_11 m c _ t).trans (table1_lo m c f t)) (q11 m c) n f d
/-- The queries' spectrum in the other rows. -/
theorem qs_hi (n : Fin 4) (f d : Fin 1024) :
    qs m c (ix3 n (hi f) d) = if f.val = 0 then cosSum (fun t => qOf m c n t d) 1024 else sinSum (fun t => qOf m c n t d) f.val := by
  rw [qs_eq]
  exact spectrum_hi _ _ (qOf m c) (fun f t => (table1_11 m c _ t).trans (table1_hi m c f t)) (q11 m c) n f d
/-- The keys' spectrum in the cosine rows. -/
theorem ks_lo (n : Fin 4) (f d : Fin 1024) : ks m c (ix3 n (lo f) d) = cosSum (fun t => kOf m c n t d) f.val := by
  rw [ks_eq]
  exact spectrum_lo _ _ (kOf m c) (fun f t => (table1_11 m c _ t).trans (table1_lo m c f t)) (k11 m c) n f d
/-- The keys' spectrum in the other rows. -/
theorem ks_hi (n : Fin 4) (f d : Fin 1024) :
    ks m c (ix3 n (hi f) d) = if f.val = 0 then cosSum (fun t => kOf m c n t d) 1024 else sinSum (fun t => kOf m c n t d) f.val := by
  rw [ks_eq]
  exact spectrum_hi _ _ (kOf m c) (fun f t => (table1_11 m c _ t).trans (table1_hi m c f t)) (k11 m c) n f d

/-- The correlation that the fourth call maximises is the inverse transform of the cross spectrum. -/
theorem corr_eq (n : Fin 4) (d : Fin 1024) (l : Fin 2048) :
    corr (W13 m c (Proc.devRef .tc main_v53)) (W13 m c (Proc.devRef .tc main_v68)) n d l
      = crossCorr (fun t => qOf m c n t d) (fun t => kOf m c n t d) l.val := by
  have hp : (W13 m c (Proc.devRef .tc main_v68) : S4x2048x1024.Idx → EReal) = point (qs m c) (ks m c) :=
    (W13_arr m c 2).trans (arr2_2 (read (W12 m)) c)
  unfold corr
  rw [hp]
  refine packed_corr _ _ l.val (fun k => (W13 m c (Proc.devRef .tc main_v53) : S2048x2048.Idx → EReal) (ix2 l k)) (fun k => point (qs m c) (ks m c) (ix3 n k d))
    (fun f => (table2_13 m c l _).trans (table2_lo m c l f)) (fun f => (table2_13 m c l _).trans (table2_hi m c l f)) (fun f => ?_) (fun f => ?_)
  · show point (qs m c) (ks m c) (ix3 n (lo f) d) = _
    rw [point_lo]
    unfold pointLo
    rw [qs_lo, ks_lo, qs_hi, ks_hi]
    by_cases h : f.val = 0
    · simp only [if_pos h]
    · simp only [if_neg h]
  · show point (qs m c) (ks m c) (ix3 n (hi f) d) = _
    rw [point_hi]
    unfold pointHi
    rw [qs_lo, ks_lo, qs_hi, ks_hi]
    by_cases h : f.val = 0
    · simp only [if_pos h]
    · simp only [if_neg h]

/-- The fourth call leaves the greatest correlation of each channel over the lags from 1, in every row. -/
theorem v14_eq (n : Fin 4) (r : Fin 8) (d : Fin 1024) :
    (W14 m c (Proc.devRef .tc main_v69) : S4x8x1024.Idx → EReal) (ix3 n r d) = bestCorr (fun t => qOf m c n t d) (fun t => kOf m c n t d) := by
  refine (congrFun ((W14_arr m c 2).trans (arr3_2 (read (W13 m)) c)) (ix3 n r d)).trans ?_
  show lagMax (W13 m c (Proc.devRef .tc main_v53)) (W13 m c (Proc.devRef .tc main_v68)) n d = _
  unfold lagMax bestCorr
  rw [← sup_from_one]
  exact Finset.sup_congr rfl fun l _ => if_congr Iff.rfl rfl (corr_eq m c n d l)

/-- The copy hands the greatest correlations on, channel by channel of each head. -/
theorem v16_eq (n : Fin 4) (h : Fin 16) (e : Fin 64) :
    (W16 m c (Proc.devRef .tc main_v74) : S4x16x64x2047.Idx → EReal) (ix4 n h e 0) = best (qOf m c) (kOf m c) n h e := by
  refine (congrFun (W16_arr m c 1) (ix4 n h e 0)).trans ?_
  refine (arr4_1 (read (W15 m)) c (ix4 n h e 0) (by show (0 : ℕ) < 128; norm_num)).trans ?_
  exact (h4_73 (W14 m c) n h e _).trans (v14_eq m c n 0 (chan h e))

/-- The values are still in place when the last call reads them. -/
theorem v17 (n : Fin 4) (t : Fin 2048) (d : Fin 1024) :
    (W17 m c (Proc.devRef .tc main_v66) : S4x2048x1024.Idx → EReal) (ix3 n t d) = vOf m c n t d :=
  (h5_66 (W16 m c) n t d).trans ((congrFun (W16_of_ne m c main_v66 (by decide)) (ix3 n t d)).trans ((h4_66 (W14 m c) n t d).trans
    ((congrFun ((W14_of_ne m c main_v66 (by decide)).trans ((W13_of_ne m c main_v66 (by decide)).trans (W12_of_ne m c main_v66 (by decide)))) (ix3 n t d)).trans
      (v11 m c n t d))))

/-- The shifts that the last call reads. -/
theorem s17 (n : Fin 4) (d : Fin 1024) :
    (W17 m c (Proc.devRef .tc main_v92) : S4x1x1024.Idx → EReal) (ix3 n 0 d)
      = (((shiftWord (fun x => best (qOf m c) (kOf m c) n (headOf d) x) (inHead d)).toInt : ℝ) : EReal) := by
  refine (h5_92 (W16 m c) n d).trans ?_
  have h : (fun x => (bef (W16 m c) main_v74 : S4x16x64x2047.Idx → EReal) (ix4 n (headOf d) x 0)) = fun x => best (qOf m c) (kOf m c) n (headOf d) x :=
    funext fun x => v16_eq m c n (headOf d) x
  rw [h]

/-- The last call's formula over shifts that are words, values, weights and a bias. -/
theorem output_eq (S : S4x1x1024.Idx → EReal) (V : S4x2048x1024.Idx → EReal) (Wt : S1024x1024.Idx → EReal) (B : S1x1024.Idx → EReal)
    (a : Fin 16 → Fin 64 → EReal) (v : Fin 2048 → Fin 1024 → EReal) (w : S1024x1024.Idx → EReal) (b : S1024.Idx → EReal) (n : Fin 4) (t : Fin 2048) (d : Fin 1024)
    (hs : ∀ e, S (ix3 n 0 e) = (((shiftWord (a (headOf e)) (inHead e)).toInt : ℝ) : EReal)) (hv : ∀ t e, V (ix3 n t e) = v t e)
    (hw : ∀ e, Wt (ix2 e d) = w (ix2 d e)) (hb : B (ix2 0 d) = b (ix1 d)) :
    output S V Wt B (ix3 n t d) = affine (fun e => v (slot (a (headOf e)) (inHead e) t) e) (fun e => w (ix2 d e)) (b (ix1 d)) := by
  show (∑ e : Fin 1024,
      (if Ideal.ofBits FTy.f32 0x3F000000#32 < S (ix3 n 0 e) then V (ix3 n ⟨(t.val + 2047) % 2048, Nat.mod_lt _ (by decide)⟩ e) else V (ix3 n t e)) * Wt (ix2 e d))
    + B (ix2 0 d) = (∑ e : Fin 1024, v (slot (a (headOf e)) (inHead e) t) e * w (ix2 d e)) + b (ix1 d)
  rw [hb]
  refine congrArg (· + b (ix1 d)) (Finset.sum_congr rfl fun e _ => ?_)
  rw [hs, hv, hv, hw]
  unfold slot
  by_cases h : shiftWord (a (headOf e)) (inHead e) = 1#32
  · rw [if_pos ((half_lt_shift _ _).2 h), if_pos h]
  · rw [if_neg (fun q => h ((half_lt_shift _ _).1 q)), if_neg h]

/-- The kernel's result: the output projection of the values, each channel taken from its slot. -/
theorem result_eq (n : Fin 4) (t : Fin 2048) (d : Fin 1024) :
    (W18 m c (Proc.devRef .tc main_v95) : S4x2048x1024.Idx → EReal) (ix3 n t d)
      = outcome (qOf m c) (kOf m c) (vOf m c) (fun d e => in9 m c (ix2 d e)) (fun d => in10 m c (ix1 d)) n t d :=
  (congrFun ((W18_arr m c 5).trans (arr5_5 (read (W17 m)) c)) (ix3 n t d)).trans
    (output_eq _ _ _ _ (best (qOf m c) (kOf m c) n) (vOf m c n) (in9 m c) (in10 m c) n t d (s17 m c n) (v17 m c n)
      (fun e => (h5_93 (W16 m c) e d).trans (congrFun (W16_kept m c main_arg9 (by decide)) (ix2 d e)))
      ((h5_94 (W16 m c) d).trans (congrFun (W16_kept m c main_arg10 (by decide)) (ix1 d))))

end Cert.KernelIdeal.Value
-- ==== Proof.Value.TopOne.lean ====
/- The first entry of a descending sort is the greatest entry. -/
module

public import proofs.«01_k».proof.Proof.Gen.ReferenceIdeal.Run
public import proofs.«01_k».proof.Proof.Value.Spec

@[expose] public section

set_option maxRecDepth 16384

noncomputable section

namespace Cert.ReferenceIdeal.Value

open Idealize.ShloMosaic Idealize.ShloMosaic.TcCoe Cert.ReferenceIdeal

/-- The order that the sort compares by: greater first. -/
theorem above_iff (x y : EReal) : (Ideal.cmpTotal .gt x y == 1#1) = decide (y < x) := by
  show (BitVec.ofBool (decide (y < x)) == 1#1) = decide (y < x)
  cases decide (y < x) <;> rfl

/-- The entry that a descending sort puts first is the greatest. -/
theorem first_eq_sup {n : ℕ} (x : Fin (n + 1) → EReal) :
    x (sortedFrom (fun k k' => Ideal.cmpTotal .gt (x k) (x k') == 1#1) 0) = Finset.univ.sup x := by
  refine le_antisymm (Finset.le_sup (f := x) (Finset.mem_univ _)) (Finset.sup_le fun i _ => ?_)
  obtain ⟨j, hj⟩ := sortedFrom_surjective (fun k k' => Ideal.cmpTotal .gt (x k) (x k') == 1#1) i
  rcases Nat.eq_zero_or_pos j.val with h0 | h0
  · have : j = 0 := Fin.ext h0
    rw [← hj, this]
  · have h := sortedFrom_noInversion (fun k k' => Ideal.cmpTotal .gt (x k) (x k') == 1#1)
      (fun k k' => Ideal.cmpTotal .gt (x k) (x k') == 1#1)
      (fun a b h => by rw [above_iff] at h ⊢; exact decide_eq_false (not_lt_of_gt (of_decide_eq_true h)))
      (fun _ _ h => h)
      (fun a b c h h' => by
        rw [above_iff] at h h' ⊢
        exact decide_eq_false (not_lt.2 ((not_lt.1 (of_decide_eq_false h)).trans (not_lt.1 (of_decide_eq_false h')))))
      0 j h0
    rw [hj, above_iff] at h
    exact not_lt.1 (of_decide_eq_false h)

/-- The first of the seven greatest entries over the lags is the greatest. -/
theorem top_one (x : S4x16x64x2047.Idx → EReal) (hs : S4x16x64x2047.Slices (fun _ => 0) S4x16x64x7) (n : Fin 4) (h : Fin 16) (e : Fin 64) :
    (Host.topK S4x16x64x7 3 (FloatOps.cmpfTotal (F := Ideal) (φ := .f32) .gt : EReal → EReal → BitVec 1) x hs).1 (ix4 n h e 0)
      = Finset.univ.sup fun l : Fin 2047 => x (ix4 n h e l) := by
  have ha : ∀ (j : S4x16x64x2047.Idx) (k : Fin 2047), j 0 = n → j 1 = h → j 2 = e → j.along (3 : Fin 4) k = ix4 n h e k := by
    intro j k h0 h1 h2
    funext a
    match a with
    | ⟨0, _⟩ => exact h0
    | ⟨1, _⟩ => exact h1
    | ⟨2, _⟩ => exact h2
    | ⟨3, _⟩ => rfl
  rw [← first_eq_sup (n := 2046) (fun l : Fin 2047 => x (ix4 n h e l))]
  have hj : ∀ (f g : Fin 2047 → S4x16x64x2047.Idx) (i : Fin 2047), f = g → i = 0 →
      x (f (sortedFrom (fun k k' : Fin 2047 => Ideal.cmpTotal .gt (x (f k)) (x (f k')) == 1#1) i))
        = x (g (sortedFrom (fun k k' : Fin 2047 => Ideal.cmpTotal .gt (x (g k)) (x (g k')) == 1#1) 0)) := by
    rintro f g i rfl rfl
    rfl
  exact hj _ _ _ (funext fun k => ha _ k (Fin.ext (Nat.zero_add _)) (Fin.ext (Nat.zero_add _)) (Fin.ext (Nat.zero_add _))) (Fin.ext (Nat.zero_add _))

end Cert.ReferenceIdeal.Value
-- ==== Proof.Value.RefSteps.lean ====
/- What the reference's buffers hold, entry by entry, in terms of its arguments, up to the slots that the values are
   taken from. -/
module

public import proofs.«01_k».proof.Proof.Gen.ReferenceIdeal.Run
public import Idealize.ShloMosaic.Lib.StableHlo.ReadAt
public import proofs.«01_k».proof.Proof.Value.TopOne

@[expose] public section

set_option maxRecDepth 16384

noncomputable section

namespace Cert.ReferenceIdeal.Value

open Idealize.ShloMosaic Idealize.ShloMosaic.TcCoe Idealize.ShloMosaic.Tactic
open Cert.ReferenceIdeal Cert.Math

variable (U : Valuation τ sig (Elt Ideal))

/-- The three projections. -/
def qOf (n : Fin 4) (t : Fin 2048) (d : Fin 1024) : EReal :=
  affine (fun e => (U (Proc.devRef .tc main_arg0) : S4x2048x1024.Idx → EReal) (ix3 n t e))
    (fun e => (U (Proc.devRef .tc main_arg3) : S1024x1024.Idx → EReal) (ix2 d e)) ((U (Proc.devRef .tc main_arg4) : S1024.Idx → EReal) (ix1 d))
def kOf (n : Fin 4) (t : Fin 2048) (d : Fin 1024) : EReal :=
  affine (fun e => (U (Proc.devRef .tc main_arg1) : S4x2048x1024.Idx → EReal) (ix3 n t e))
    (fun e => (U (Proc.devRef .tc main_arg5) : S1024x1024.Idx → EReal) (ix2 d e)) ((U (Proc.devRef .tc main_arg6) : S1024.Idx → EReal) (ix1 d))
def vOf (n : Fin 4) (t : Fin 2048) (d : Fin 1024) : EReal :=
  affine (fun e => (U (Proc.devRef .tc main_arg2) : S4x2048x1024.Idx → EReal) (ix3 n t e))
    (fun e => (U (Proc.devRef .tc main_arg7) : S1024x1024.Idx → EReal) (ix2 d e)) ((U (Proc.devRef .tc main_arg8) : S1024.Idx → EReal) (ix1 d))

/-- The buffers, as arrays of extended reals or of words. -/
abbrev b_v4 : S4x2048x1024.Idx → EReal := res_main_v4 U
abbrev b_v9 : S4x2048x1024.Idx → EReal := res_main_v9 U
abbrev b_v27 : S1025x2048.Idx → EReal := res_main_v27 U
abbrev b_v46 : S1025x2048.Idx → EReal := res_main_v46 U
abbrev b_v60 : S1025.Idx → BitVec 32 := res_main_v60 U
abbrev b_v71 : S2048x1025.Idx → EReal := res_main_v71 U
abbrev b_v30 : S4x1025x1024.Idx → EReal := res_main_v30 U
abbrev b_v34 : S4x1025x1024.Idx → EReal := res_main_v34 U
abbrev b_v49 : S4x1025x1024.Idx → EReal := res_main_v49 U
abbrev b_v53 : S4x1025x1024.Idx → EReal := res_main_v53 U
abbrev b_v78 : S1x1025.Idx → EReal := res_main_v78 U
abbrev b_v95 : S4x16x64x2047.Idx → EReal := res_main_v95 U
abbrev b_v96 : S4x7x16x64.Idx → EReal := res_main_v96 U
abbrev b_v103 : S4x7x16x64.Idx → EReal := res_main_v103 U
abbrev b_len : S_.Idx → BitVec 32 := res_main_call1_v2 U
abbrev b_rem : S4x2048x16x64.Idx → BitVec 32 := res_main_call1_v4 U
abbrev b_v117 : S4x2048x16x64.Idx → BitVec 32 := res_main_v117 U
abbrev b_slot : S4x2048x16x64x1.Idx → BitVec 32 := res_main_call2_v5 U

/-- The projected queries. -/
theorem r4 (n : Fin 4) (t : Fin 2048) (d : Fin 1024) : b_v4 U (ix3 n t d) = qOf U n t d := by
  unfold b_v4 res_main_v4; clean_types; pointwise; rfl
/-- The projected keys. -/
theorem r9 (n : Fin 4) (t : Fin 2048) (d : Fin 1024) : b_v9 U (ix3 n t d) = kOf U n t d := by
  unfold b_v9 res_main_v9; clean_types; pointwise; rfl

/-- The product of two small words times the step is the angle of the product. -/
theorem angle_mul (a b : ℕ) (h : a * b < 2 ^ 31) :
    (FloatOps.sitofp (F := Ideal) .f32 (IntOp.muli (BitVec.ofNat 32 a) (BitVec.ofNat 32 b)) : EReal)
        * (Ideal.acos (Ideal.ofBits FTy.f32 3212836864#32) * Ideal.ofBits FTy.f32 981467136#32)
      = ((turn (a * b) : ℝ) : EReal) := by
  rw [step_eq, ← angle_eq h, BitVec.ofNat_mul]
  rfl

/-- A frequency times a position is a small number. -/
theorem small (f : Fin 1025) (t : Fin 2048) : f.val * t.val < 2 ^ 31 :=
  lt_of_le_of_lt (Nat.mul_le_mul (Nat.le_of_lt f.isLt) (Nat.le_of_lt t.isLt)) (by norm_num)

/-- The angles of the queries' transform. -/
theorem r27 (f : Fin 1025) (t : Fin 2048) : b_v27 U (ix2 f t) = ((turn (f.val * t.val) : ℝ) : EReal) := by
  rw [← angle_mul _ _ (small f t)]
  unfold b_v27 res_main_v27; clean_types; pointwise
/-- The angles of the keys' transform. -/
theorem r46 (f : Fin 1025) (t : Fin 2048) : b_v46 U (ix2 f t) = ((turn (f.val * t.val) : ℝ) : EReal) := by
  rw [← angle_mul _ _ (small f t)]
  unfold b_v46 res_main_v46; clean_types; pointwise
/-- The frequencies. -/
theorem r60 (f : Fin 1025) : b_v60 U (ix1 f) = BitVec.ofNat 32 f.val := rfl
/-- The angles of the inverse transform. -/
theorem r71 (l : Fin 2048) (f : Fin 1025) : b_v71 U (ix2 l f) = ((turn (l.val * f.val) : ℝ) : EReal) := by
  rw [← angle_mul _ _ (by rw [mul_comm]; exact small f l), ← r60 U f]
  unfold b_v71 res_main_v71; clean_types; pointwise

/-- The real part of the queries' spectrum. -/
theorem r30 (n : Fin 4) (f : Fin 1025) (d : Fin 1024) :
    b_v30 U (ix3 n f d) = cosSum (fun t => qOf U n t d) f.val := by
  refine Eq.trans (b := ∑ x : Fin 2048, b_v4 U (ix3 n x d) * Ideal.cos (b_v27 U (ix2 f x))) ?_ ?_
  · unfold b_v30 res_main_v30; clean_types; pointwise
  · exact Finset.sum_congr rfl fun t _ => congrArg₂ (· * ·) (r4 U n t d) (congrArg Ideal.cos (r27 U f t))
/-- The imaginary part of the queries' spectrum. -/
theorem r34 (n : Fin 4) (f : Fin 1025) (d : Fin 1024) :
    b_v34 U (ix3 n f d) = -sinSum (fun t => qOf U n t d) f.val := by
  refine Eq.trans (b := -∑ x : Fin 2048, b_v4 U (ix3 n x d) * Ideal.sin (b_v27 U (ix2 f x))) ?_ ?_
  · unfold b_v34 res_main_v34; clean_types; pointwise
  · exact congrArg Neg.neg (Finset.sum_congr rfl fun t _ => congrArg₂ (· * ·) (r4 U n t d) (congrArg Ideal.sin (r27 U f t)))
/-- The real part of the keys' spectrum. -/
theorem r49 (n : Fin 4) (f : Fin 1025) (d : Fin 1024) :
    b_v49 U (ix3 n f d) = cosSum (fun t => kOf U n t d) f.val := by
  refine Eq.trans (b := ∑ x : Fin 2048, b_v9 U (ix3 n x d) * Ideal.cos (b_v46 U (ix2 f x))) ?_ ?_
  · unfold b_v49 res_main_v49; clean_types; pointwise
  · exact Finset.sum_congr rfl fun t _ => congrArg₂ (· * ·) (r9 U n t d) (congrArg Ideal.cos (r46 U f t))
/-- The imaginary part of the keys' spectrum. -/
theorem r53 (n : Fin 4) (f : Fin 1025) (d : Fin 1024) :
    b_v53 U (ix3 n f d) = -sinSum (fun t => kOf U n t d) f.val := by
  refine Eq.trans (b := -∑ x : Fin 2048, b_v9 U (ix3 n x d) * Ideal.sin (b_v46 U (ix2 f x))) ?_ ?_
  · unfold b_v53 res_main_v53; clean_types; pointwise
  · exact congrArg Neg.neg (Finset.sum_congr rfl fun t _ => congrArg₂ (· * ·) (r9 U n t d) (congrArg Ideal.sin (r46 U f t)))

/-- The weights of the inverse transform. -/
theorem r78 (f : Fin 1025) : b_v78 U (ix2 0 f) = ((weight f.val : ℝ) : EReal) := by
  refine Eq.trans (b := Scalar.select (IntOp.ori (IntOp.cmpi .eq (BitVec.ofNat 32 f.val) 0#32) (IntOp.cmpi .eq (BitVec.ofNat 32 f.val) 1024#32))
    (Ideal.ofBits FTy.f32 973078528#32) (Ideal.ofBits FTy.f32 981467136#32)) ?_ ?_
  · rw [← r60 U f]
    unfold b_v78 res_main_v78; clean_types; pointwise
  · have h : ∀ f : Fin 1025, IntOp.ori (IntOp.cmpi .eq (BitVec.ofNat 32 f.val) 0#32) (IntOp.cmpi .eq (BitVec.ofNat 32 f.val) 1024#32)
        = if f.val = 0 ∨ f.val = 1024 then 1#1 else 0#1 := by decide +kernel
    rw [h, word_inv_len, word_step]
    unfold weight
    by_cases q : f.val = 0 ∨ f.val = 1024
    · rw [if_pos q, if_pos q]; rfl
    · rw [if_neg q, if_neg q]; rfl

/-- The correlation at the lags from 1. -/
theorem r95 (n : Fin 4) (h : Fin 16) (e : Fin 64) (l : Fin 2047) :
    b_v95 U (ix4 n h e l)
      = crossCorr (fun t => qOf U n t (chan h e)) (fun t => kOf U n t (chan h e)) (1 + l.val) := by
  have hl : 1 + l.val < 2048 := by have := l.isLt; omega
  refine Eq.trans (b :=
      (∑ x : Fin 1025,
        (b_v30 U (ix3 n x (chan h e)) * b_v49 U (ix3 n x (chan h e))
          + b_v34 U (ix3 n x (chan h e)) * b_v53 U (ix3 n x (chan h e)))
        * (b_v78 U (ix2 0 x) * Ideal.cos (b_v71 U (ix2 ⟨1 + l.val, hl⟩ x))))
      + ∑ x : Fin 1025,
        (b_v34 U (ix3 n x (chan h e)) * b_v49 U (ix3 n x (chan h e))
          - b_v30 U (ix3 n x (chan h e)) * b_v53 U (ix3 n x (chan h e)))
        * -(b_v78 U (ix2 0 x) * Ideal.sin (b_v71 U (ix2 ⟨1 + l.val, hl⟩ x)))) ?_ ?_
  · unfold b_v95 res_main_v95; clean_types; pointwise; rfl
  · simp only [r30, r34, r49, r53, r78, r71]
    unfold crossCorr crossRe crossIm
    refine congrArg₂ (· + ·) (Finset.sum_congr rfl fun f _ => ?_) (Finset.sum_congr rfl fun f _ => ?_)
    · rw [EReal.coe_mul]; rfl
    · rw [EReal.coe_neg, EReal.coe_mul]; rfl

/-- What the softmax reads. -/
theorem r96 (n : Fin 4) (h : Fin 16) (e : Fin 64) : b_v96 U (ix4 n 0 h e) = best (qOf U) (kOf U) n h e := by
  refine Eq.trans (b := Finset.univ.sup fun l : Fin 2047 => b_v95 U (ix4 n h e l)) ?_ ?_
  · rw [← top_one (b_v95 U) Gen.sliceFits_S4x16x64x2047_S4x16x64x7]
    unfold b_v96 res_main_v96; clean_types; pointwise
  · exact Finset.sup_congr rfl fun l _ => r95 U n h e l

/-- The exponentials of the softmax. -/
theorem r103 (n : Fin 4) (h : Fin 16) (e : Fin 64) :
    b_v103 U (ix4 n 0 h e) = Ideal.exp (best (qOf U) (kOf U) n h e - peak (best (qOf U) (kOf U) n h)) := by
  refine Eq.trans (b := Ideal.exp (b_v96 U (ix4 n 0 h e)
      - peak fun x => b_v96 U (ix4 n 0 h x))) ?_ ?_
  · unfold b_v103 res_main_v103 peak; clean_types; pointwise
  · rw [r96, show (fun x => b_v96 U (ix4 n 0 h x)) = best (qOf U) (kOf U) n h from funext fun x => r96 U n h x]

/-- The length that the slots are reduced to. -/
theorem rlen : b_len U ix0 = Scalar.select (IntOp.cmpi .eq (2048#32) 0#32) (1#32) (2048#32) := by
  unfold b_len res_main_call1_v2 res_main_call1_v0; clean_types; pointwise; rfl

/-- The remainder of the position less the shift, before its sign is settled. -/
theorem rrem (n : Fin 4) (t : Fin 2048) (h : Fin 16) (e : Fin 64) :
    b_rem U (ix4 n t h e)
      = IntOp.remsi .host (IntOp.subi (BitVec.ofNat 32 t.val) (shiftWord (best (qOf U) (kOf U) n h) e))
          (Scalar.select (IntOp.cmpi .eq (2048#32) 0#32) (1#32) (2048#32)) := by
  refine Eq.trans (b := IntOp.remsi .host
      (IntOp.subi (BitVec.ofNat 32 t.val)
        (Ideal.fptosi 32 (Ideal.div (b_v103 U (ix4 n 0 h e)) (∑ x : Fin 64, b_v103 U (ix4 n 0 h x)))))
      (b_len U ix0)) ?_ ?_
  · unfold b_rem res_main_call1_v4; clean_types; pointwise; rfl
  · rw [rlen]
    unfold shiftWord
    simp only [r103]

/-- The position less the shift, reduced to the length. -/
theorem r117 (n : Fin 4) (t : Fin 2048) (h : Fin 16) (e : Fin 64) :
    b_v117 U (ix4 n t h e)
      = BitVec.ofNat 32 (slot (best (qOf U) (kOf U) n h) e t).val := by
  rw [← slot_word]
  unfold modWord
  rw [← rrem U n t h e, ← rlen U]
  unfold b_v117 res_main_v117; clean_types; pointwise

/-- The slots, as the values are taken from. -/
theorem rslot (n : Fin 4) (t : Fin 2048) (h : Fin 16) (e : Fin 64) :
    b_slot U (ix5 n t h e 0) = BitVec.ofNat 32 (slot (best (qOf U) (kOf U) n h) e t).val := by
  refine Eq.trans (b := Scalar.select (IntOp.cmpi .slt (b_v117 U (ix4 n t h e)) 0#32)
      (IntOp.addi (b_v117 U (ix4 n t h e)) 2048#32) (b_v117 U (ix4 n t h e))) ?_ ?_
  · unfold b_slot res_main_call2_v5; clean_types; pointwise
  · rw [r117, slt_zero_nat (lt_trans (Fin.isLt _) (by norm_num))]
    rfl

end Cert.ReferenceIdeal.Value
-- ==== Proof.Value.RefTake.lean ====
/- Taking values along the time axis at given slots, and the last projection, read entry by entry. -/
module

public import proofs.«01_k».proof.Proof.Gen.ReferenceIdeal.Run
public import Idealize.ShloMosaic.Lib.StableHlo.ReadAt
public import proofs.«01_k».proof.Proof.Value.Spec

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Math

/-- The index of the start of the slice for an entry. -/
theorem start_at (j : S4x2048x16x64.Idx) (k : Fin 1) :
    gather_S4x2048x16x64_S4x2048x16x64x1_S4x2048x16x64_n_1_023_023_1_4_1111.siIdx j k = ix5 (j 0) (j 1) (j 2) (j 3) 0 := by
  funext b
  refine Fin.ext ?_
  match b with
  | ⟨0, _⟩ => rfl
  | ⟨1, _⟩ => rfl
  | ⟨2, _⟩ => rfl
  | ⟨3, _⟩ => rfl
  | ⟨4, _⟩ => exact congrArg Fin.val (Subsingleton.elim k 0)

/-- The entry taken, when its slot is a position of the axis. -/
theorem take_at (x : S4x2048x16x64.Idx → EReal) (idx : S4x2048x16x64x1.Idx → BitVec 32) (n : Fin 4) (t : Fin 2048) (h : Fin 16) (e : Fin 64) (p : Fin 2048)
    (hp : idx (ix5 n t h e 0) = BitVec.ofNat 32 p.val) :
    Host.gather gather_S4x2048x16x64_S4x2048x16x64x1_S4x2048x16x64_n_1_023_023_1_4_1111 x idx (ix4 n t h e) = x (ix4 n p h e) := by
  unfold Host.gather
  refine congrArg x (funext fun a => Fin.ext ?_)
  have hs : (idx (ix5 n t h e 0)).toInt.toNat = p.val := by
    rw [hp, toInt_nat (lt_trans p.isLt (by norm_num))]; rfl
  match a with
  | ⟨0, _⟩ => exact Nat.zero_add _
  | ⟨1, _⟩ =>
    refine Eq.trans (b := min (idx (ix5 n t h e 0)).toInt.toNat (2048 - 1)) ?_ ?_
    · have q : ix5 n t h e 0 = _ := (start_at (ix4 n t h e) 0).symm
      rw [q]; rfl
    · rw [hs]; have := p.isLt; show min p.val (2048 - 1) = p.val; omega
  | ⟨2, _⟩ => exact Nat.zero_add _
  | ⟨3, _⟩ => exact Nat.zero_add _

/-- The bounds test, when every slot is a position of the axis. -/
theorem bounds_at (idx : S4x2048x16x64x1.Idx → BitVec 32) (n : Fin 4) (t : Fin 2048) (h : Fin 16) (e : Fin 64) (p : Fin 2048)
    (hp : idx (ix5 n t h e 0) = BitVec.ofNat 32 p.val) :
    Host.reduce IntOp.andi (andi (cmpi .sge idx (broadcastInDim S4x2048x16x64x1 ![] bcast_S_S4x2048x16x64x1 (constantI S_ 32 0#32))) (cmpi .sle idx (broadcastInDim S4x2048x16x64x1 ![0, 1, 2, 3, 4] bcast_S1x1x1x1x1_S4x2048x16x64x1_0_1_2_3_4 (broadcastInDim S1x1x1x1x1 ![4] bcast_S1_S1x1x1x1x1_4 (constantI S1 32 2047#32))))) (constantI S_ 1 1#1) reducesTo_S4x2048x16x64x1_S4x2048x16x64_d4 h_S_ (ix4 n t h e) = 1#1 := by
  pointwise
  have hk : ∀ p : Fin 2048, IntOp.andi (IntOp.cmpi .sge (BitVec.ofNat 32 p.val) 0#32) (IntOp.cmpi .sle (BitVec.ofNat 32 p.val) 2047#32) = 1#1 := by decide +kernel
  rw [show (fun x : Fin 1 => IntOp.andi (IntOp.cmpi .sge (idx (ix5 n t h e x)) 0#32) (IntOp.cmpi .sle (idx (ix5 n t h e x)) 2047#32)) = fun _ => 1#1 from
    funext fun x => by rw [Subsingleton.elim x 0, hp]; exact hk p]
  rfl

/-- The values split into heads, at a channel of a head. -/
theorem heads_at (y : S4x2048x1024.Idx → EReal) (n : Fin 4) (t : Fin 2048) (d : Fin 1024) :
    shapeCast S4x2048x16x64 y shapeCasts_S4x2048x1024_S4x2048x16x64 (ix4 n t (headOf d) (inHead d)) = y (ix3 n t d) := by
  pointwise
  exact congrArg (fun i => y (ix3 n t i)) (Fin.ext (Nat.div_add_mod' d.val 64))

/-- The heads joined. -/
theorem joined_at (y : S4x2048x16x64.Idx → EReal) (n : Fin 4) (t : Fin 2048) (d : Fin 1024) :
    shapeCast S4x2048x1024 y shapeCasts_S4x2048x16x64_S4x2048x1024 (ix3 n t d) = y (ix4 n t (headOf d) (inHead d)) := by
  pointwise

/-- A projection of rows. -/
theorem affine_at (x : S4x2048x1024.Idx → EReal) (w : S1024x1024.Idx → EReal) (b : S1024.Idx → EReal) (n : Fin 4) (t : Fin 2048) (d : Fin 1024) :
    (addf (F := Ideal) (φ := .f32) (Host.dotGeneral (φ₁ := .f32) (φ₂ := .f32) dot_S4x2048x1024_S1024x1024_S4x2048x1024_2_0_01_1_n_n none x (transpose (α := EReal) S1024x1024 [1, 0] w transposes_S1024x1024_S1024x1024_1_0)) (broadcastInDim S4x2048x1024 ![0, 1, 2] bcast_S1x1x1024_S4x2048x1024_0_1_2 (broadcastInDim S1x1x1024 ![2] bcast_S1024_S1x1x1024_2 b)) : S4x2048x1024.Idx → EReal) (ix3 n t d)
      = affine (fun e => x (ix3 n t e)) (fun e => w (ix2 d e)) (b (ix1 d)) := by
  pointwise
  rfl

end Cert.ReferenceIdeal.Value
-- ==== Proof.Value.RefValue.lean ====
/- The reference's result, entry by entry, in terms of its arguments. -/
module

public import proofs.«01_k».proof.Proof.Value.RefSteps
public import proofs.«01_k».proof.Proof.Value.RefTake

@[expose] public section

set_option maxRecDepth 16384

noncomputable section

namespace Cert.ReferenceIdeal.Value

open Idealize.ShloMosaic Idealize.ShloMosaic.TcCoe Idealize.ShloMosaic.Tactic
open Cert.ReferenceIdeal Cert.ReferenceIdeal.Gen Cert.Math

variable (U : Valuation τ sig (Elt Ideal))

/-- The values taken at slots that lie on the axis: the test passes, so the entry is the one at its slot. -/
theorem pick_at (x : S4x2048x16x64.Idx → EReal) (z : S4x2048x16x64.Idx → EReal) (idx : S4x2048x16x64x1.Idx → BitVec 32) (g : S4x2048x16x64.Idx → BitVec 1)
    (n : Fin 4) (t : Fin 2048) (h : Fin 16) (e : Fin 64) (p : Fin 2048) (hg : g (ix4 n t h e) = 1#1) (hp : idx (ix5 n t h e 0) = BitVec.ofNat 32 p.val) :
    (select (α := EReal) g (Host.gather gather_S4x2048x16x64_S4x2048x16x64x1_S4x2048x16x64_n_1_023_023_1_4_1111 x idx) z : S4x2048x16x64.Idx → EReal) (ix4 n t h e)
      = x (ix4 n p h e) := by
  show Scalar.select (g (ix4 n t h e)) (Host.gather _ x idx (ix4 n t h e)) (z (ix4 n t h e)) = _
  rw [hg, take_at x idx n t h e p hp]
  rfl

/-- The reference's result. -/
theorem result_eq (n : Fin 4) (t : Fin 2048) (d : Fin 1024) :
    (val3 U (Proc.devRef .tc main_v124) : S4x2048x1024.Idx → EReal) (ix3 n t d)
      = outcome (qOf U) (kOf U) (vOf U) (fun d e => (U (Proc.devRef .tc main_arg9) : S1024x1024.Idx → EReal) (ix2 d e))
          (fun d => (U (Proc.devRef .tc main_arg10) : S1024.Idx → EReal) (ix1 d)) n t d := by
  rw [val3_main_v124]
  refine (affine_at _ _ _ n t d).trans ?_
  unfold outcome
  refine congrArg (fun r => affine r _ _) (funext fun e => ?_)
  refine (joined_at _ n t e).trans ?_
  refine (pick_at _ _ _ _ n t (headOf e) (inHead e) _ (bounds_at _ n t (headOf e) (inHead e) _ (rslot U n t (headOf e) (inHead e)))
    (rslot U n t (headOf e) (inHead e))).trans ?_
  refine (heads_at _ n _ e).trans ?_
  exact affine_at _ _ _ n _ e

end Cert.ReferenceIdeal.Value
-- ==== Proof.Value.Equation.lean ====
/- The two programs' results are the same array. -/
module

public import proofs.«01_k».proof.Proof.Value.KernelValue
public import proofs.«01_k».proof.Proof.Value.RefValue

@[expose] public section

set_option maxRecDepth 16384

noncomputable section

namespace Cert.Value

open Idealize.ShloMosaic Idealize.ShloMosaic.TcCoe Cert.Math

/-- From equal arguments the kernel leaves in its result what the reference leaves in its own. -/
theorem results_eq (m : (ℓ : Loc Cert.KernelIdeal.nD Cert.KernelIdeal.τ Cert.KernelIdeal.sig) → Buf (Elt Ideal) ℓ) (c : Dev Cert.KernelIdeal.nD)
    (U : Valuation Cert.ReferenceIdeal.τ Cert.ReferenceIdeal.sig (Elt Ideal))
    (h0 : (U (Proc.devRef .tc Cert.ReferenceIdeal.main_arg0) : Cert.ReferenceIdeal.S4x2048x1024.Idx → EReal) = Cert.KernelIdeal.Value.in0 m c)
    (h1 : (U (Proc.devRef .tc Cert.ReferenceIdeal.main_arg1) : Cert.ReferenceIdeal.S4x2048x1024.Idx → EReal) = Cert.KernelIdeal.Value.in1 m c)
    (h2 : (U (Proc.devRef .tc Cert.ReferenceIdeal.main_arg2) : Cert.ReferenceIdeal.S4x2048x1024.Idx → EReal) = Cert.KernelIdeal.Value.in2 m c)
    (h3 : (U (Proc.devRef .tc Cert.ReferenceIdeal.main_arg3) : Cert.ReferenceIdeal.S1024x1024.Idx → EReal) = Cert.KernelIdeal.Value.in3 m c)
    (h4 : (U (Proc.devRef .tc Cert.ReferenceIdeal.main_arg4) : Cert.ReferenceIdeal.S1024.Idx → EReal) = Cert.KernelIdeal.Value.in4 m c)
    (h5 : (U (Proc.devRef .tc Cert.ReferenceIdeal.main_arg5) : Cert.ReferenceIdeal.S1024x1024.Idx → EReal) = Cert.KernelIdeal.Value.in5 m c)
    (h6 : (U (Proc.devRef .tc Cert.ReferenceIdeal.main_arg6) : Cert.ReferenceIdeal.S1024.Idx → EReal) = Cert.KernelIdeal.Value.in6 m c)
    (h7 : (U (Proc.devRef .tc Cert.ReferenceIdeal.main_arg7) : Cert.ReferenceIdeal.S1024x1024.Idx → EReal) = Cert.KernelIdeal.Value.in7 m c)
    (h8 : (U (Proc.devRef .tc Cert.ReferenceIdeal.main_arg8) : Cert.ReferenceIdeal.S1024.Idx → EReal) = Cert.KernelIdeal.Value.in8 m c)
    (h9 : (U (Proc.devRef .tc Cert.ReferenceIdeal.main_arg9) : Cert.ReferenceIdeal.S1024x1024.Idx → EReal) = Cert.KernelIdeal.Value.in9 m c)
    (h10 : (U (Proc.devRef .tc Cert.ReferenceIdeal.main_arg10) : Cert.ReferenceIdeal.S1024.Idx → EReal) = Cert.KernelIdeal.Value.in10 m c) :
    (Cert.ReferenceIdeal.Value.val3 U (Proc.devRef .tc Cert.ReferenceIdeal.main_v124) : Cert.ReferenceIdeal.S4x2048x1024.Idx → EReal)
      = (Cert.KernelIdeal.Whole.W18 m c (Proc.devRef .tc Cert.KernelIdeal.main_v95) : Cert.KernelIdeal.S4x2048x1024.Idx → EReal) := by
  funext i
  have hi : i = ix3 (i 0) (i 1) (i 2) := by
    funext a
    match a with
    | ⟨0, _⟩ => rfl
    | ⟨1, _⟩ => rfl
    | ⟨2, _⟩ => rfl
  rw [hi]
  refine (Cert.ReferenceIdeal.Value.result_eq U (i 0) (i 1) (i 2)).trans
    (Eq.trans ?_ (Cert.KernelIdeal.Value.result_eq m c (i 0) (i 1) (i 2)).symm)
  have hq : Cert.ReferenceIdeal.Value.qOf U = Cert.KernelIdeal.Value.qOf m c := by
    unfold Cert.ReferenceIdeal.Value.qOf; rw [h0, h3, h4]; rfl
  have hk : Cert.ReferenceIdeal.Value.kOf U = Cert.KernelIdeal.Value.kOf m c := by
    unfold Cert.ReferenceIdeal.Value.kOf; rw [h1, h5, h6]; rfl
  have hv : Cert.ReferenceIdeal.Value.vOf U = Cert.KernelIdeal.Value.vOf m c := by
    unfold Cert.ReferenceIdeal.Value.vOf; rw [h2, h7, h8]; rfl
  rw [hq, hk, hv, h9, h10]

end Cert.Value
-- ==== Proof.lean ====
/- The proof of the claim: the three programs run and leave their arguments and counters as they were; the kernel's
   idealization is its own text; and at exact values the kernel and the reference end with the same result. -/
module

public import proofs.«01_k».proof.Defs
public import proofs.«01_k».proof.Proof.Whole.Kernel.Run
public import proofs.«01_k».proof.Proof.Whole.KernelIdeal.Run
public import proofs.«01_k».proof.Proof.Value.Equation
public import Idealize.ShloMosaic.Lib.Quiescent

@[expose] public section

noncomputable section

namespace Cert.Proof

open Idealize.ShloMosaic Idealize.SL.Sem

/-- The reference runs, its arguments end as launched and its counters at zero. -/
theorem reference_frame : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- From equal arguments the kernel and the reference end with the same result, their arguments as launched. -/
theorem equal_results : Cert.algebraic_KernelIdeal_ReferenceIdeal (hKernelIdeal := Cert.KernelIdeal.Gen.facts)
    (hReferenceIdeal := Cert.ReferenceIdeal.Gen.facts) := by
  intro m g m' g' _ hm
  refine ⟨fun c => Cert.KernelIdeal.Whole.W18 m c (Proc.devRef .tc Cert.KernelIdeal.main_v95), ?_, ?_⟩
  · refine (θ_run Cert.KernelIdeal.defs _ _).mono (fun r h c => ?_) (Cert.KernelIdeal.Whole.run (F := Ideal) m g)
    have k : ∀ a : Ref Cert.KernelIdeal.sig .tc, a ∈ Cert.KernelIdeal.Whole.argRefs → ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hu => (h.1 c _ (Cert.KernelIdeal.Whole.mem_uc a hu)).trans (Cert.KernelIdeal.Whole.W18_kept m c a ha)
    exact ⟨h.1 c _ (Cert.KernelIdeal.Whole.mem_uc Cert.KernelIdeal.main_v95 (by decide)), k Cert.KernelIdeal.main_arg0 (by decide) (by decide), k Cert.KernelIdeal.main_arg1 (by decide) (by decide), k Cert.KernelIdeal.main_arg2 (by decide) (by decide), k Cert.KernelIdeal.main_arg3 (by decide) (by decide), k Cert.KernelIdeal.main_arg4 (by decide) (by decide), k Cert.KernelIdeal.main_arg5 (by decide) (by decide), k Cert.KernelIdeal.main_arg6 (by decide) (by decide), k Cert.KernelIdeal.main_arg7 (by decide) (by decide), k Cert.KernelIdeal.main_arg8 (by decide) (by decide), k Cert.KernelIdeal.main_arg9 (by decide) (by decide), k Cert.KernelIdeal.main_arg10 (by decide) (by decide)⟩
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10⟩ := hm c
    exact (Cert.ReferenceIdeal.Value.val3_main_v124 (StableHlo.launchContents m' c)).symm.trans
      (Cert.Value.results_eq m c (StableHlo.launchContents m' c) h0 h1 h2 h3 h4 h5 h6 h7 h8 h9 h10)

/-- Everything that is claimed. -/
theorem claim : Cert.Claim :=
  ⟨Cert.Kernel.Gen.facts, Cert.KernelIdeal.Gen.facts, Cert.ReferenceIdeal.Gen.facts,
    fun m ρ _ => Cert.Kernel.Whole.frame (F := Bits) m ρ, fun m ρ _ => Cert.KernelIdeal.Whole.frame (F := Ideal) m ρ, reference_frame, trivial, equal_results⟩

end Cert.Proof

end
